-- ==== Defs.lean ====
def Pre_Kernel [hPre_rows_of_experts : Cert.Pre_rows_of_experts.Facts] (m : (ℓ : Loc Cert.Kernel.nD Cert.Kernel.τ Cert.Kernel.sig) → Buf (Elt Bits) ℓ) : Prop :=
  ∀ c : Dev Cert.Kernel.nD,
    (Cert.Pre_rows_of_experts.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_rows_of_experts : Cert.Pre_rows_of_experts.Facts] (m : (ℓ : Loc Cert.KernelIdeal.nD Cert.KernelIdeal.τ Cert.KernelIdeal.sig) → Buf (Elt Ideal) ℓ) : Prop :=
  ∀ c : Dev Cert.KernelIdeal.nD,
    (Cert.Pre_rows_of_experts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_of_experts [hPre_rows_of_experts : Cert.Pre_rows_of_experts.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_of_experts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] [hPre_rows_of_experts : Cert.Pre_rows_of_experts.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_rows_of_experts : Cert.Pre_rows_of_experts.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_rows_of_experts [hReferenceIdeal : Cert.ReferenceIdeal.Facts] [hPre_rows_of_experts : Cert.Pre_rows_of_experts.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_of_experts m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_of_experts : Cert.Pre_rows_of_experts.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_rows_of_experts : Cert.Pre_rows_of_experts.Facts),
    quiescent_Kernel (hKernel := hKernel) (hPre_rows_of_experts := hPre_rows_of_experts)
    ∧ quiescent_KernelIdeal (hKernelIdeal := hKernelIdeal) (hPre_rows_of_experts := hPre_rows_of_experts)
    ∧ quiescent_ReferenceIdeal (hReferenceIdeal := hReferenceIdeal)
    ∧ quiescent_ReferenceIdeal_pre_rows_of_experts (hReferenceIdeal := hReferenceIdeal) (hPre_rows_of_experts := hPre_rows_of_experts)
    ∧ preserves_Kernel_KernelIdeal
    ∧ algebraic_KernelIdeal_ReferenceIdeal (hKernelIdeal := hKernelIdeal) (hReferenceIdeal := hReferenceIdeal) (hPre_rows_of_experts := hPre_rows_of_experts)
-- ==== Pre_rows_of_experts.lean ====
abbrev S4x384x32x32 : Shape := ⟨4, ![4, 384, 32, 32]⟩
abbrev S40 : Shape := ⟨1, ![40]⟩
abbrev S10240x384 : Shape := ⟨2, ![10240, 384]⟩
abbrev S8x384x768 : Shape := ⟨3, ![8, 384, 768]⟩
abbrev S8x768x384 : Shape := ⟨3, ![8, 768, 384]⟩
abbrev S10240 : Shape := ⟨1, ![10240]⟩
abbrev S384x768 : Shape := ⟨2, ![384, 768]⟩
abbrev S768x384 : Shape := ⟨2, ![768, 384]⟩
abbrev S4096 : Shape := ⟨1, ![4096]⟩
abbrev S_ : Shape := ⟨0, ![]⟩
abbrev S4096x1 : Shape := ⟨2, ![4096, 1]⟩

class Facts : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S40 : S_.BroadcastsInDim S40 (![] : Fin 0 → Fin S40.rank)
  reducesTo_S40_S_d0 : S40.ReducesTo [0] S_
  h_S_ : 0 < S_.numel
  gather_S40_S4096x1_S4096_n_0_n_n_0_1_1_wf : GatherDims.WF S40 S4096x1 S4096 [] [0] [] [0] [] 1 ![1]

variable [Facts]

def gather_S40_S4096x1_S4096_n_0_n_n_0_1_1 : GatherDims S40 S4096x1 S4096 where
  offsetDims := []
  collapsedSliceDims := [0]
  operandBatchingDims := []
  startIndicesBatchingDims := []
  startIndexMap := [0]
  indexVectorDim := 1
  sliceSizes := ![1]
  wf := gather_S40_S4096x1_S4096_n_0_n_n_0_1_1_wf
def fn_take {F : FTy → Type} [FloatOps F] (arg0 : IVec S40 32) (arg1 : IVec S4096 32) : IVec S4096 32 :=
  let v0 : IVec S4096x1 32 := broadcastInDim S4096x1 ![0] bcast_S4096_S4096x1_0 arg1
  let v1 : IVec S4096 32 := (fun x i => Host.gather gather_S40_S4096x1_S4096_n_0_n_n_0_1_1 x i) arg0 v0
  v1

def fn_part1 {F : FTy → Type} [FloatOps F] (main_arg1 : IVec S40 32) (main_arg11 : IVec S4096 32) (main_v10 : IVec S4096 1) (main_v15 : IVec S4096 1) (main_v16 : IVec S4096 32) : IVec S4096 1 :=
  let main_v17 : IVec S4096 32 := Host.shrsi main_arg11 main_v16
  let main_v18 : IVec S4096 32 := fn_take (F := F) main_arg1 main_v17
  let main_c_6 : IVec S_ 32 := constantI S_ 32 0#32
  let main_v19 : IVec S4096 32 := broadcastInDim S4096 ![] bcast_S_S4096 main_c_6
  let main_v20 : IVec S4096 1 := cmpi .sge main_v18 main_v19
  let main_v21 : IVec S4096 1 := andi main_v15 main_v20
  let main_v22 : IVec S4096 1 := andi main_v10 main_v21
  let main_c_7 : IVec S_ 32 := constantI S_ 32 8#32
  let main_v23 : IVec S40 32 := broadcastInDim S40 ![] bcast_S_S40 main_c_7
  let main_v24 : IVec S40 1 := cmpi .slt main_arg1 main_v23
  let main_c_8 : IVec S_ 1 := constantI S_ 1 1#1
  let main_v25 : IVec S_ 1 := (fun x v => Host.reduce IntOp.andi x v reducesTo_S40_S_d0 h_S_) main_v24 main_c_8
  let main_v26 : IVec S4096 1 := broadcastInDim S4096 ![] bcast_S_S4096 main_v25
  let main_v27 : IVec S4096 1 := andi main_v22 main_v26
  main_v27

def fn {F : FTy → Type} [FloatOps F] (main_arg0 : FVec F S4x384x32x32 .f32) (main_arg1 : IVec S40 32) (main_arg2 : FVec F S10240x384 .f32) (main_arg3 : FVec F S8x384x768 .f32) (main_arg4 : FVec F S8x384x768 .f32) (main_arg5 : FVec F S8x768x384 .f32) (main_arg6 : FVec F S10240 .f32) (main_arg7 : FVec F S384x768 .f32) (main_arg8 : FVec F S384x768 .f32) (main_arg9 : FVec F S768x384 .f32) (main_arg10 : IVec S4096 32) (main_arg11 : IVec S4096 32) : IVec S4096 1 :=
  let main_c : IVec S_ 32 := constantI S_ 32 0#32
  let main_v0 : IVec S4096 32 := broadcastInDim S4096 ![] bcast_S_S4096 main_c
  let main_v1 : IVec S4096 1 := cmpi .sge main_arg10 main_v0
  let main_c_0 : IVec S_ 32 := constantI S_ 32 10240#32
  let main_v2 : IVec S4096 32 := broadcastInDim S4096 ![] bcast_S_S4096 main_c_0
  let main_v3 : IVec S4096 1 := cmpi .slt main_arg10 main_v2
  let main_v4 : IVec S4096 1 := andi main_v1 main_v3
  let main_c_1 : IVec S_ 32 := constantI S_ 32 8#32
  let main_v5 : IVec S4096 32 := broadcastInDim S4096 ![] bcast_S_S4096 main_c_1
  let main_v6 : IVec S4096 32 := Host.shrsi main_arg10 main_v5
  let main_v7 : IVec S4096 32 := fn_take (F := F) main_arg1 main_v6
  let main_c_2 : IVec S_ 32 := constantI S_ 32 0#32
  let main_v8 : IVec S4096 32 := broadcastInDim S4096 ![] bcast_S_S4096 main_c_2
  let main_v9 : IVec S4096 1 := cmpi .sge main_v7 main_v8
  let main_v10 : IVec S4096 1 := andi main_v4 main_v9
  let main_c_3 : IVec S_ 32 := constantI S_ 32 0#32
  let main_v11 : IVec S4096 32 := broadcastInDim S4096 ![] bcast_S_S4096 main_c_3
  let main_v12 : IVec S4096 1 := cmpi .sge main_arg11 main_v11
  let main_c_4 : IVec S_ 32 := constantI S_ 32 10240#32
  let main_v13 : IVec S4096 32 := broadcastInDim S4096 ![] bcast_S_S4096 main_c_4
  let main_v14 : IVec S4096 1 := cmpi .slt main_arg11 main_v13
  let main_v15 : IVec S4096 1 := andi main_v12 main_v14
  let main_c_5 : IVec S_ 32 := constantI S_ 32 8#32
  let main_v16 : IVec S4096 32 := broadcastInDim S4096 ![] bcast_S_S4096 main_c_5
  fn_part1 (F := F) main_arg1 main_arg11 main_v10 main_v15 main_v16
-- ==== Kernel.lean ====
abbrev S4x384x32x32 : Shape := ⟨4, ![4, 384, 32, 32]⟩
abbrev S40 : Shape := ⟨1, ![40]⟩
abbrev S10240x384 : Shape := ⟨2, ![10240, 384]⟩
abbrev S8x384x768 : Shape := ⟨3, ![8, 384, 768]⟩
abbrev S8x768x384 : Shape := ⟨3, ![8, 768, 384]⟩
abbrev S10240 : Shape := ⟨1, ![10240]⟩
abbrev S384x768 : Shape := ⟨2, ![384, 768]⟩
abbrev S768x384 : Shape := ⟨2, ![768, 384]⟩
abbrev S4096 : Shape := ⟨1, ![4096]⟩
abbrev S4x32x32x384 : Shape := ⟨4, ![4, 32, 32, 384]⟩
abbrev S4096x384 : Shape := ⟨2, ![4096, 384]⟩
abbrev S10240x1 : Shape := ⟨2, ![10240, 1]⟩
abbrev S256x384 : Shape := ⟨2, ![256, 384]⟩
abbrev S256x1 : Shape := ⟨2, ![256, 1]⟩
abbrev S1 : Shape := ⟨1, ![1]⟩
abbrev S1x384x768 : Shape := ⟨3, ![1, 384, 768]⟩
abbrev S256x768 : Shape := ⟨2, ![256, 768]⟩
abbrev S1x768x384 : Shape := ⟨3, ![1, 768, 384]⟩
abbrev S128 : Shape := ⟨1, ![128]⟩
abbrev S128x384 : Shape := ⟨2, ![128, 384]⟩
abbrev S_ : Shape := ⟨0, ![]⟩
abbrev S128x128 : Shape := ⟨2, ![128, 128]⟩
abbrev S10240x128 : Shape := ⟨2, ![10240, 128]⟩
abbrev S512x384 : Shape := ⟨2, ![512, 384]⟩
abbrev S512x768 : Shape := ⟨2, ![512, 768]⟩

abbrev nBuf : Table → Nat
  | .hbm => 20
  | .local .tc .vmem => 20
  | .local .tc .smem => 1
  | .local .scVector .vmem => 4
  | _ => 0

abbrev bufTy : (tb : Table) → Fin (nBuf tb) → BufTy
  | .hbm, ⟨0, _⟩ => ⟨S4x384x32x32, .f32⟩
  | .hbm, ⟨1, _⟩ => ⟨S10240x384, .f32⟩
  | .hbm, ⟨2, _⟩ => ⟨S8x384x768, .f32⟩
  | .hbm, ⟨3, _⟩ => ⟨S8x384x768, .f32⟩
  | .hbm, ⟨4, _⟩ => ⟨S8x768x384, .f32⟩
  | .hbm, ⟨5, _⟩ => ⟨S10240, .f32⟩
  | .hbm, ⟨6, _⟩ => ⟨S384x768, .f32⟩
  | .hbm, ⟨7, _⟩ => ⟨S384x768, .f32⟩
  | .hbm, ⟨8, _⟩ => ⟨S768x384, .f32⟩
  | .hbm, ⟨9, _⟩ => ⟨S4096, .i32⟩
  | .hbm, ⟨10, _⟩ => ⟨S4096, .i32⟩
  | .hbm, ⟨11, _⟩ => ⟨S4x32x32x384, .f32⟩
  | .hbm, ⟨12, _⟩ => ⟨S4096x384, .f32⟩
  | .hbm, ⟨13, _⟩ => ⟨S10240x1, .f32⟩
  | .hbm, ⟨14, _⟩ => ⟨S10240x384, .f32⟩
  | .hbm, ⟨15, _⟩ => ⟨S4096x384, .f32⟩
  | .hbm, ⟨16, _⟩ => ⟨S4096x384, .f32⟩
  | .hbm, ⟨17, _⟩ => ⟨S4096x384, .f32⟩
  | .hbm, ⟨18, _⟩ => ⟨S4x32x32x384, .f32⟩
  | .hbm, ⟨19, _⟩ => ⟨S4x384x32x32, .f32⟩
  | .local .tc .vmem, ⟨0, _⟩ => ⟨S256x384, .f32⟩
  | .local .tc .vmem, ⟨1, _⟩ => ⟨S256x384, .f32⟩
  | .local .tc .vmem, ⟨2, _⟩ => ⟨S8x384x768, .f32⟩
  | .local .tc .vmem, ⟨3, _⟩ => ⟨S8x384x768, .f32⟩
  | .local .tc .vmem, ⟨4, _⟩ => ⟨S8x768x384, .f32⟩
  | .local .tc .vmem, ⟨5, _⟩ => ⟨S256x1, .f32⟩
  | .local .tc .vmem, ⟨6, _⟩ => ⟨S256x1, .f32⟩
  | .local .tc .vmem, ⟨7, _⟩ => ⟨S256x384, .f32⟩
  | .local .tc .vmem, ⟨8, _⟩ => ⟨S256x384, .f32⟩
  | .local .tc .vmem, ⟨9, _⟩ => ⟨S512x384, .f32⟩
  | .local .tc .vmem, ⟨10, _⟩ => ⟨S512x384, .f32⟩
  | .local .tc .vmem, ⟨11, _⟩ => ⟨S384x768, .f32⟩
  | .local .tc .vmem, ⟨12, _⟩ => ⟨S384x768, .f32⟩
  | .local .tc .vmem, ⟨13, _⟩ => ⟨S768x384, .f32⟩
  | .local .tc .vmem, ⟨14, _⟩ => ⟨S512x384, .f32⟩
  | .local .tc .vmem, ⟨15, _⟩ => ⟨S512x384, .f32⟩
  | .local .tc .vmem, ⟨16, _⟩ => ⟨S512x384, .f32⟩
  | .local .tc .vmem, ⟨17, _⟩ => ⟨S512x384, .f32⟩
  | .local .tc .vmem, ⟨18, _⟩ => ⟨S512x384, .f32⟩
  | .local .tc .vmem, ⟨19, _⟩ => ⟨S512x384, .f32⟩
  | .local .tc .smem, ⟨0, _⟩ => ⟨S40, .i32⟩
  | .local .scVector .vmem, ⟨0, _⟩ => ⟨S128, .i32⟩
  | .local .scVector .vmem, ⟨1, _⟩ => ⟨S128, .i32⟩
  | .local .scVector .vmem, ⟨2, _⟩ => ⟨S128x384, .f32⟩
  | .local .scVector .vmem, ⟨3, _⟩ => ⟨S128x384, .f32⟩
  | _, _ => ⟨S4x384x32x32, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTables nBuf rfl bufTy 4 29 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_arg11 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_arg1 : Ref sig .tc := ⟨.smem, 0, rfl⟩
abbrev main_v3_scv : Ref sig .scVector := ⟨.hbm, 14, rfl⟩
abbrev main_arg10_scv : Ref sig .scVector := ⟨.hbm, 9, rfl⟩
abbrev main_arg11_scv : Ref sig .scVector := ⟨.hbm, 10, rfl⟩
abbrev main_v4_0_scv : Ref sig .scVector := ⟨.hbm, 15, rfl⟩
abbrev main_v4_1_scv : Ref sig .scVector := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg4_1 : Ref sig .tc := ⟨.vmem, 15, rfl⟩
abbrev cc2_stg5_0 : Ref sig .tc := ⟨.vmem, 16, rfl⟩
abbrev cc2_stg5_1 : Ref sig .tc := ⟨.vmem, 17, rfl⟩
abbrev cc2_stg6_0 : Ref sig .tc := ⟨.vmem, 18, rfl⟩
abbrev cc2_stg6_1 : Ref sig .tc := ⟨.vmem, 19, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem4_1 : DmaSem sig := 24
abbrev cc2_sem5_0 : DmaSem sig := 25
abbrev cc2_sem5_1 : DmaSem sig := 26
abbrev cc2_sem6_0 : DmaSem sig := 27
abbrev cc2_sem6_1 : DmaSem sig := 28
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![40], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_off3 (v6 : BitVec 32) : Fin 3 → Nat :=
  let c0_i32_1 : BitVec 32 := 0#32
  let v7 : BitVec 32 := Scalar.maxsi v6 c0_i32_1
  let v9 : Index := Scalar.indexCast v7
  let c0_3 : Index := 0#32
  let c0_4 : Index := 0#32
  ![v9.toNat, 0, 0]
def k0_cond1 (v1 : BitVec 32) : BitVec 1 :=
  let c0_i32 : BitVec 32 := 0#32
  let v2 : BitVec 1 := Scalar.cmpi .sge v1 c0_i32
  let v3 : BitVec 32 := Scalar.extui v2
  let c0_i32_0 : BitVec 32 := 0#32
  let v4 : BitVec 1 := Scalar.cmpi .ne v3 c0_i32_0
  v4

def k0_off4 (v6 : BitVec 32) : Fin 3 → Nat :=
  let c0_i32_1 : BitVec 32 := 0#32
  let v7 : BitVec 32 := Scalar.maxsi v6 c0_i32_1
  let v20 : Index := Scalar.indexCast v7
  let c0_8 : Index := 0#32
  let c0_9 : Index := 0#32
  ![v20.toNat, 0, 0]

def k0_chk1 (v1 : BitVec 32) (v6 : BitVec 32) : Prop :=
  (∀ (k0_h1 : k0_cond1 v1 = 1#1), ∀ a, (k0_off3 v6) a + S1x384x768.size a ≤ S8x384x768.size a) ∧
  (∀ (k0_h1 : k0_cond1 v1 = 1#1), ∀ a, (k0_off4 v6) a + S1x768x384.size a ≤ S8x768x384.size a)
theorem k0_off3_inb : ∀ (v1 : BitVec 32) (v6 : BitVec 32) (k0_hw1 : k0_chk1 v1 v6), ∀ (k0_h1 : k0_cond1 v1 = 1#1), ∀ a, (k0_off3 v6) a + S1x384x768.size a ≤ S8x384x768.size a := fun v1 v6 k0_hw1 k0_h1 => k0_hw1.1 k0_h1
theorem k0_off4_inb : ∀ (v1 : BitVec 32) (v6 : BitVec 32) (k0_hw1 : k0_chk1 v1 v6), ∀ (k0_h1 : k0_cond1 v1 = 1#1), ∀ a, (k0_off4 v6) a + S1x768x384.size a ≤ S8x768x384.size a := fun v1 v6 k0_hw1 k0_h1 => k0_hw1.2 k0_h1

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x384x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x384x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x768x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_34 : BitVec 32 := 0#32
  ![v2.toNat, 0]
abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x384 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S384x768 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S384x768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S768x384 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x384 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x384 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S512x384 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x384x32x32 : Shape := ⟨4, ![4, 384, 32, 32]⟩
abbrev S40 : Shape := ⟨1, ![40]⟩
abbrev S10240x384 : Shape := ⟨2, ![10240, 384]⟩
abbrev S8x384x768 : Shape := ⟨3, ![8, 384, 768]⟩
abbrev S8x768x384 : Shape := ⟨3, ![8, 768, 384]⟩
abbrev S10240 : Shape := ⟨1, ![10240]⟩
abbrev S384x768 : Shape := ⟨2, ![384, 768]⟩
abbrev S768x384 : Shape := ⟨2, ![768, 384]⟩
abbrev S4096 : Shape := ⟨1, ![4096]⟩
abbrev S4x32x32x384 : Shape := ⟨4, ![4, 32, 32, 384]⟩
abbrev S4096x384 : Shape := ⟨2, ![4096, 384]⟩
abbrev S4096x1 : Shape := ⟨2, ![4096, 1]⟩
abbrev S_ : Shape := ⟨0, ![]⟩
abbrev S8 : Shape := ⟨1, ![8]⟩
abbrev S1x8 : Shape := ⟨2, ![1, 8]⟩
abbrev S4096x8 : Shape := ⟨2, ![4096, 8]⟩
abbrev S8x768x4096 : Shape := ⟨3, ![8, 768, 4096]⟩
abbrev S8x4096x768 : Shape := ⟨3, ![8, 4096, 768]⟩
abbrev S8x4096x384 : Shape := ⟨3, ![8, 4096, 384]⟩
abbrev S4096x768 : Shape := ⟨2, ![4096, 768]⟩

abbrev nBuf : Space → Nat
  | .hbm => 101
  | .vmem => 0
  | .smem => 0
  | _ => 0

abbrev bufTy : (tb : Table) → Fin (tcTables nBuf tb) → BufTy
  | .hbm, ⟨0, _⟩ => ⟨S4x384x32x32, .f32⟩
  | .hbm, ⟨1, _⟩ => ⟨S40, .i32⟩
  | .hbm, ⟨2, _⟩ => ⟨S10240x384, .f32⟩
  | .hbm, ⟨3, _⟩ => ⟨S8x384x768, .f32⟩
  | .hbm, ⟨4, _⟩ => ⟨S8x384x768, .f32⟩
  | .hbm, ⟨5, _⟩ => ⟨S8x768x384, .f32⟩
  | .hbm, ⟨6, _⟩ => ⟨S10240, .f32⟩
  | .hbm, ⟨7, _⟩ => ⟨S384x768, .f32⟩
  | .hbm, ⟨8, _⟩ => ⟨S384x768, .f32⟩
  | .hbm, ⟨9, _⟩ => ⟨S768x384, .f32⟩
  | .hbm, ⟨10, _⟩ => ⟨S4096, .i32⟩
  | .hbm, ⟨11, _⟩ => ⟨S4096, .i32⟩
  | .hbm, ⟨12, _⟩ => ⟨S4x32x32x384, .f32⟩
  | .hbm, ⟨13, _⟩ => ⟨S4096x384, .f32⟩
  | .hbm, ⟨14, _⟩ => ⟨S4096x1, .i32⟩
  | .hbm, ⟨15, _⟩ => ⟨S4096x384, .f32⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S4096x1, .i32⟩
  | .hbm, ⟨20, _⟩ => ⟨S4096, .i32⟩
  | .hbm, ⟨21, _⟩ => ⟨S4096x1, .i32⟩
  | .hbm, ⟨22, _⟩ => ⟨S4096, .f32⟩
  | .hbm, ⟨23, _⟩ => ⟨S4096x1, .i32⟩
  | .hbm, ⟨24, _⟩ => ⟨S8, .i32⟩
  | .hbm, ⟨25, _⟩ => ⟨S1x8, .i32⟩
  | .hbm, ⟨26, _⟩ => ⟨S4096x8, .i32⟩
  | .hbm, ⟨27, _⟩ => ⟨S4096x8, .i32⟩
  | .hbm, ⟨28, _⟩ => ⟨S4096x8, .i1⟩
  | .hbm, ⟨29, _⟩ => ⟨S4096x8, .f32⟩
  | .hbm, ⟨30, _⟩ => ⟨S4096x1, .f32⟩
  | .hbm, ⟨31, _⟩ => ⟨S4096x8, .f32⟩
  | .hbm, ⟨32, _⟩ => ⟨S4096x8, .f32⟩
  | .hbm, ⟨33, _⟩ => ⟨S8x768x4096, .f32⟩
  | .hbm, ⟨34, _⟩ => ⟨S8x4096x768, .f32⟩
  | .hbm, ⟨35, _⟩ => ⟨S8x768x4096, .f32⟩
  | .hbm, ⟨36, _⟩ => ⟨S8x4096x768, .f32⟩
  | .hbm, ⟨37, _⟩ => ⟨S8x4096x768, .f32⟩
  | .hbm, ⟨38, _⟩ => ⟨S8x4096x768, .f32⟩
  | .hbm, ⟨39, _⟩ => ⟨S_, .f32⟩
  | .hbm, ⟨40, _⟩ => ⟨S8x4096x768, .f32⟩
  | .hbm, ⟨41, _⟩ => ⟨S8x4096x768, .f32⟩
  | .hbm, ⟨42, _⟩ => ⟨S_, .f32⟩
  | .hbm, ⟨43, _⟩ => ⟨S8x4096x768, .f32⟩
  | .hbm, ⟨44, _⟩ => ⟨S8x4096x768, .f32⟩
  | .hbm, ⟨45, _⟩ => ⟨S8x4096x768, .f32⟩
  | .hbm, ⟨46, _⟩ => ⟨S8x4096x768, .f32⟩
  | .hbm, ⟨47, _⟩ => ⟨S8x4096x384, .f32⟩
  | .hbm, ⟨48, _⟩ => ⟨S4096x384, .f32⟩
  | .hbm, ⟨49, _⟩ => ⟨S4096x1, .i32⟩
  | .hbm, ⟨50, _⟩ => ⟨S4096x384, .f32⟩
  | .hbm, ⟨51, _⟩ => ⟨S_, .i32⟩
  | .hbm, ⟨52, _⟩ => ⟨S4096, .i32⟩
  | .hbm, ⟨53, _⟩ => ⟨S4096, .i32⟩
  | .hbm, ⟨54, _⟩ => ⟨S4096x1, .i32⟩
  | .hbm, ⟨55, _⟩ => ⟨S4096, .i32⟩
  | .hbm, ⟨56, _⟩ => ⟨S4096x1, .i32⟩
  | .hbm, ⟨57, _⟩ => ⟨S4096, .f32⟩
  | .hbm, ⟨58, _⟩ => ⟨S4096x1, .i32⟩
  | .hbm, ⟨59, _⟩ => ⟨S8, .i32⟩
  | .hbm, ⟨60, _⟩ => ⟨S1x8, .i32⟩
  | .hbm, ⟨61, _⟩ => ⟨S4096x8, .i32⟩
  | .hbm, ⟨62, _⟩ => ⟨S4096x8, .i32⟩
  | .hbm, ⟨63, _⟩ => ⟨S4096x8, .i1⟩
  | .hbm, ⟨64, _⟩ => ⟨S4096x8, .f32⟩
  | .hbm, ⟨65, _⟩ => ⟨S4096x1, .f32⟩
  | .hbm, ⟨66, _⟩ => ⟨S4096x8, .f32⟩
  | .hbm, ⟨67, _⟩ => ⟨S4096x8, .f32⟩
  | .hbm, ⟨68, _⟩ => ⟨S8x768x4096, .f32⟩
  | .hbm, ⟨69, _⟩ => ⟨S8x4096x768, .f32⟩
  | .hbm, ⟨70, _⟩ => ⟨S8x768x4096, .f32⟩
  | .hbm, ⟨71, _⟩ => ⟨S8x4096x768, .f32⟩
  | .hbm, ⟨72, _⟩ => ⟨S8x4096x768, .f32⟩
  | .hbm, ⟨73, _⟩ => ⟨S8x4096x768, .f32⟩
  | .hbm, ⟨74, _⟩ => ⟨S_, .f32⟩
  | .hbm, ⟨75, _⟩ => ⟨S8x4096x768, .f32⟩
  | .hbm, ⟨76, _⟩ => ⟨S8x4096x768, .f32⟩
  | .hbm, ⟨77, _⟩ => ⟨S_, .f32⟩
  | .hbm, ⟨78, _⟩ => ⟨S8x4096x768, .f32⟩
  | .hbm, ⟨79, _⟩ => ⟨S8x4096x768, .f32⟩
  | .hbm, ⟨80, _⟩ => ⟨S8x4096x768, .f32⟩
  | .hbm, ⟨81, _⟩ => ⟨S8x4096x768, .f32⟩
  | .hbm, ⟨82, _⟩ => ⟨S8x4096x384, .f32⟩
  | .hbm, ⟨83, _⟩ => ⟨S4096x384, .f32⟩
  | .hbm, ⟨84, _⟩ => ⟨S4096x384, .f32⟩
  | .hbm, ⟨85, _⟩ => ⟨S4096x768, .f32⟩
  | .hbm, ⟨86, _⟩ => ⟨S4096x768, .f32⟩
  | .hbm, ⟨87, _⟩ => ⟨S4096x768, .f32⟩
  | .hbm, ⟨88, _⟩ => ⟨S_, .f32⟩
  | .hbm, ⟨89, _⟩ => ⟨S4096x768, .f32⟩
  | .hbm, ⟨90, _⟩ => ⟨S4096x768, .f32⟩
  | .hbm, ⟨91, _⟩ => ⟨S_, .f32⟩
  | .hbm, ⟨92, _⟩ => ⟨S4096x768, .f32⟩
  | .hbm, ⟨93, _⟩ => ⟨S4096x768, .f32⟩
  | .hbm, ⟨94, _⟩ => ⟨S4096x768, .f32⟩
  | .hbm, ⟨95, _⟩ => ⟨S4096x768, .f32⟩
  | .hbm, ⟨96, _⟩ => ⟨S4096x768, .f32⟩
  | .hbm, ⟨97, _⟩ => ⟨S4096x384, .f32⟩
  | .hbm, ⟨98, _⟩ => ⟨S4096x384, .f32⟩
  | .hbm, ⟨99, _⟩ => ⟨S4x32x32x384, .f32⟩
  | .hbm, ⟨100, _⟩ => ⟨S4x384x32x32, .f32⟩
  | _, _ => ⟨S4x384x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_call0_v0 : Ref sig .tc := ⟨.hbm, 14, rfl⟩
abbrev main_v2 : Ref sig .tc := ⟨.hbm, 15, rfl⟩
abbrev main_c : Ref sig .tc := ⟨.hbm, 16, rfl⟩
abbrev main_v3 : Ref sig .tc := ⟨.hbm, 17, rfl⟩
abbrev main_v4 : Ref sig .tc := ⟨.hbm, 18, rfl⟩
abbrev main_call1_v0 : Ref sig .tc := ⟨.hbm, 19, rfl⟩
abbrev main_v5 : Ref sig .tc := ⟨.hbm, 20, rfl⟩
abbrev main_call2_v0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_call3_v0 : Ref sig .tc := ⟨.hbm, 37, rfl⟩
abbrev main_call3_v1 : Ref sig .tc := ⟨.hbm, 38, rfl⟩
abbrev main_call3_cst : Ref sig .tc := ⟨.hbm, 39, rfl⟩
abbrev main_call3_v2 : Ref sig .tc := ⟨.hbm, 40, rfl⟩
abbrev main_call3_v3 : Ref sig .tc := ⟨.hbm, 41, rfl⟩
abbrev main_call3_cst_0 : Ref sig .tc := ⟨.hbm, 42, rfl⟩
abbrev main_call3_v4 : Ref sig .tc := ⟨.hbm, 43, rfl⟩
abbrev main_call3_v5 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_call4_v0 : Ref sig .tc := ⟨.hbm, 49, rfl⟩
abbrev main_v25 : Ref sig .tc := ⟨.hbm, 50, rfl⟩
abbrev main_c_0 : Ref sig .tc := ⟨.hbm, 51, rfl⟩
abbrev main_v26 : Ref sig .tc := ⟨.hbm, 52, rfl⟩
abbrev main_v27 : Ref sig .tc := ⟨.hbm, 53, rfl⟩
abbrev main_call5_v0 : Ref sig .tc := ⟨.hbm, 54, rfl⟩
abbrev main_v28 : Ref sig .tc := ⟨.hbm, 55, rfl⟩
abbrev main_call6_v0 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_call7_v0 : Ref sig .tc := ⟨.hbm, 72, rfl⟩
abbrev main_call7_v1 : Ref sig .tc := ⟨.hbm, 73, rfl⟩
abbrev main_call7_cst : Ref sig .tc := ⟨.hbm, 74, rfl⟩
abbrev main_call7_v2 : Ref sig .tc := ⟨.hbm, 75, rfl⟩
abbrev main_call7_v3 : Ref sig .tc := ⟨.hbm, 76, rfl⟩
abbrev main_call7_cst_0 : Ref sig .tc := ⟨.hbm, 77, rfl⟩
abbrev main_call7_v4 : Ref sig .tc := ⟨.hbm, 78, rfl⟩
abbrev main_call7_v5 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_call8_v0 : Ref sig .tc := ⟨.hbm, 86, rfl⟩
abbrev main_call8_v1 : Ref sig .tc := ⟨.hbm, 87, rfl⟩
abbrev main_call8_cst : Ref sig .tc := ⟨.hbm, 88, rfl⟩
abbrev main_call8_v2 : Ref sig .tc := ⟨.hbm, 89, rfl⟩
abbrev main_call8_v3 : Ref sig .tc := ⟨.hbm, 90, rfl⟩
abbrev main_call8_cst_0 : Ref sig .tc := ⟨.hbm, 91, rfl⟩
abbrev main_call8_v4 : Ref sig .tc := ⟨.hbm, 92, rfl⟩
abbrev main_call8_v5 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩

abbrev nD : Nat := 1
abbrev τ : Topo := Topo.v7x

variable {F : FTy → Type} [FloatOps F]
-- ==== Proof.Setup.lean ====
/-
  What the whole proof is stated over: the program as the launch theorem sees it, the ghost state, the buffers, and the
  values. The SparseCore call hands tile `(c, s)` the 128 rows starting at row `256 s + 128 c` of both results; a table of
  rows `g` and a list of row numbers `p` determine them: row `n` of a result is row `p n` of the table (`taken`).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.FrameBody
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the calls' handshakes, the pipeline's staging cells, the transfers' counters -/

abbrev UH : Type := URounds (GSem nD τ sig) ℕ
abbrev UB : Type := UR sig nD τ × Counters
abbrev UU : Type := UH × UB

local notation "𝕄" => MT nD τ sig (HIx 1) (Elt F) ℕ UU ℕ

abbrev EH : Emb UH (MT nD τ sig (HIx 1) (Elt F) ℕ UU ℕ) := embL
def EP : Emb (UR sig nD τ) (MT nD τ sig (HIx 1) (Elt F) ℕ UU ℕ) := (Emb.inl : Emb (UR sig nD τ) UB).trans embR
instance EP_landsIn : (EP (F := F)).LandsIn (upEmb : UEmb _ 𝕄) := by unfold EP; infer_instance

/-! ## The call's buffers -/

abbrev yLoc (d : Dev nD) : Loc nD τ sig := (SparseCore.T d).loc main_v3
abbrev p0Loc (d : Dev nD) : Loc nD τ sig := (SparseCore.T d).loc main_arg10
abbrev p1Loc (d : Dev nD) : Loc nD τ sig := (SparseCore.T d).loc main_arg11
abbrev aLoc (d : Dev nD) : Loc nD τ sig := (SparseCore.T d).loc main_v4_0
abbrev bLoc (d : Dev nD) : Loc nD τ sig := (SparseCore.T d).loc main_v4_1

/-! ## The values -/

/-- Row `r`, column `j` of the table. -/
abbrev ix2 {n m : ℕ} (r : Fin n) (j : Fin m) : (⟨2, ![n, m]⟩ : Shape).Idx := fun | 0 => r | 1 => j
abbrev ix1 {n : ℕ} (r : Fin n) : (⟨1, ![n]⟩ : Shape).Idx := fun | 0 => r

/-- A word as a row number of the table (the word itself, below the table's height). -/
def rowOf (w : BitVec 32) : Fin 10240 := ⟨w.toNat % 10240, Nat.mod_lt _ (by decide)⟩

/-- Row `n` is row `p n` of `g`. -/
def taken (g : S10240x384.Idx → Elt F .f32) (p : S4096.Idx → Elt F .i32) : S4096x384.Idx → Elt F .f32 :=
  fun i => g (ix2 (rowOf (p (ix1 (i 0)))) (i 1))

/-- Block `w` (of 32) of a list of row numbers. -/
def listBlk (p : S4096.Idx → Elt F .i32) (w : Fin 32) : S128.Idx → Elt F .i32 :=
  fun k => p (ix1 ⟨128 * w.val + (k 0).val, by have := (k 0).isLt; have : (k 0).val < 128 := this; omega⟩)

/-- Block `w` (of 32) of the rows taken. -/
def takenBlk (g : S10240x384.Idx → Elt F .f32) (p : S4096.Idx → Elt F .i32) (w : Fin 32) : S128x384.Idx → Elt F .f32 :=
  fun i => g (ix2 (rowOf (listBlk p w (ix1 (i 0)))) (i 1))

/-- The rows of a result that block `w` holds. -/
theorem odiv : 32 ∣ S4096x384.size 0 := ⟨128, rfl⟩
abbrev orow (w : Fin 32) : Rect S4096x384 := Rect.part (s := S4096x384) (a₀ := 0) odiv w
/-- The columns of a staged block that one column transfer writes. -/
theorem cdiv : 3 ∣ S128x384.size 1 := ⟨128, rfl⟩
abbrev ccol (k : Fin 3) : Rect S128x384 := Rect.part (s := S128x384) (a₀ := 1) cdiv k

end Cert.Proof

end
-- ==== Proof.Blocks.lean ====
/-
  The pieces a tile moves and what they hold. A tile's block of a result is block `2 s + c` of 32; its staged block of
  rows is written by three column transfers, each delivering columns `o … o + 127` of the rows its list names; the three
  together are the block of the rows taken, and the write-out leaves the result's block at the rows taken.
-/
module

public import proofs.«01_k».proof.Proof.Setup

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "yV" => (Memref.whole Cert.KernelIdeal.main_v3_scv : Memref Cert.KernelIdeal.sig Kind.scVector Space.hbm Cert.KernelIdeal.S10240x384 EltTy.f32)
local notation "p0V" => (Memref.whole Cert.KernelIdeal.main_arg10_scv : Memref Cert.KernelIdeal.sig Kind.scVector Space.hbm Cert.KernelIdeal.S4096 EltTy.i32)
local notation "p1V" => (Memref.whole Cert.KernelIdeal.main_arg11_scv : Memref Cert.KernelIdeal.sig Kind.scVector Space.hbm Cert.KernelIdeal.S4096 EltTy.i32)
local notation "aV" => (Memref.whole Cert.KernelIdeal.main_v4_0_scv : Memref Cert.KernelIdeal.sig Kind.scVector Space.hbm Cert.KernelIdeal.S4096x384 EltTy.f32)
local notation "bV" => (Memref.whole Cert.KernelIdeal.main_v4_1_scv : Memref Cert.KernelIdeal.sig Kind.scVector Space.hbm Cert.KernelIdeal.S4096x384 EltTy.f32)
local notation "i0V" => (Memref.whole Cert.KernelIdeal.cc1_scratch0 : Memref Cert.KernelIdeal.sig Kind.scVector Space.vmem Cert.KernelIdeal.S128 EltTy.i32)
local notation "i1V" => (Memref.whole Cert.KernelIdeal.cc1_scratch1 : Memref Cert.KernelIdeal.sig Kind.scVector Space.vmem Cert.KernelIdeal.S128 EltTy.i32)
local notation "raV" => (Memref.whole Cert.KernelIdeal.cc1_scratch2 : Memref Cert.KernelIdeal.sig Kind.scVector Space.vmem Cert.KernelIdeal.S128x384 EltTy.f32)
local notation "rbV" => (Memref.whole Cert.KernelIdeal.cc1_scratch3 : Memref Cert.KernelIdeal.sig Kind.scVector Space.vmem Cert.KernelIdeal.S128x384 EltTy.f32)

/-! ## Which block is the tile's -/

theorem bound_zero : grid1.bound 0 = 2 := rfl
theorem bound_one : grid1.bound 1 = 16 := rfl

/-- The block of tile `L`: `2 s + c`. -/
def blkOf (L : grid1.Coords) : Fin 32 :=
  ⟨2 * (L 1).val + (L 0).val, by have h0 : (L 0).val < 2 := (L 0).isLt; have h1 : (L 1).val < 16 := (L 1).isLt; omega⟩

abbrev lrect (L : grid1.Coords) : Rect S4096 := Rect.unit (s := S4096) (k1_off1 L) S128.size (k1_off1_inb L)
abbrev rrect (L : grid1.Coords) : Rect S4096x384 := Rect.unit (s := S4096x384) (k1_off2 L) S128x384.size (k1_off2_inb L)

theorem lrect_off (L : grid1.Coords) : (lrect L).off 0 = 128 * (blkOf L).val := by
  show k1_off1 L 0 = _
  rw [k1_off1_eq]; simp only [blkOf, Matrix.cons_val_zero]; omega

theorem rrect_eq (L : grid1.Coords) : rrect L = orow (blkOf L) := by
  unfold rrect orow Rect.part Rect.block
  congr 1 <;> funext a
  · rw [k1_off2_eq]
    match a with
    | 0 => simp [Shape.partIx, Shape.partSize, blkOf]; omega
    | 1 => simp [Shape.partIx, Shape.partSize]
  · match a with
    | 0 => simp [Shape.partSize]
    | 1 => simp [Shape.partSize]

/-- Three column rectangles of a staged block. -/
theorem ccol_eq (k : Fin 3) (h : ∀ a, (![0, 128 * k.val] : Fin 2 → Nat) a + S128x128.size a ≤ S128x384.size a) :
    Rect.unit (s := S128x384) ![0, 128 * k.val] S128x128.size h = ccol k := by
  unfold ccol Rect.part Rect.block
  congr 1 <;> funext a
  · match a with
    | 0 => simp [Shape.partIx, Shape.partSize]
    | 1 => simp [Shape.partIx, Shape.partSize]; omega
  · match a with
    | 0 => simp [Shape.partSize]
    | 1 => simp [Shape.partSize]

/-! ## What the transfers deliver -/

/-- The list a tile fetches is its block of the list. -/
theorem read_list0 (L : grid1.Coords) (p : S4096.Idx → Elt F .i32) :
    ((p0V).slice (lrect L) (fun _ => rfl)).view.read (Elt F) p = listBlk p (blkOf L) := by
  funext k
  rw [View.read_apply]
  show p _ = p _
  congr 1; funext a
  match a with
  | 0 =>
    apply Fin.ext
    show (k1_off1 L) 0 + 1 * (k 0).val = 128 * (blkOf L).val + (k 0).val
    have := lrect_off L
    have e : (lrect L).off 0 = (k1_off1 L) 0 := rfl
    omega
theorem read_list1 (L : grid1.Coords) (p : S4096.Idx → Elt F .i32) :
    ((p1V).slice (lrect L) (fun _ => rfl)).view.read (Elt F) p = listBlk p (blkOf L) := read_list0 L p

theorem rowMajor_one (y : S128.Idx) : (S128.rowMajor y).val = (y 0).val := by
  show ((Shape.rowMajorPi S128.size y : Fin _) : ℕ) = _
  rw [Shape.rowMajorPi_succ_val]
  have h1 : (∏ a : Fin 0, S128.size a.succ) = 1 := rfl
  have h2 : ((Shape.rowMajorPi (fun a : Fin 0 => S128.size a.succ) (fun a => y a.succ) : Fin _) : ℕ) = 0 := by
    have := (Shape.rowMajorPi (fun a : Fin 0 => S128.size a.succ) (fun a => y a.succ)).isLt
    have e : (∏ a : Fin 0, S128.size a.succ) = 1 := rfl
    omega
  rw [h2]
  show (y 0).val * (∏ a : Fin 0, S128.size a.succ) + 0 = (y 0).val
  rw [h1]; omega

theorem symm_one (k : Fin S128.numel) (r : Fin 128) (h : k.val = r.val) : S128.rowMajor.symm k = ix1 r := by
  rw [Equiv.symm_apply_eq]
  apply Fin.ext
  rw [rowMajor_one]
  exact h

/-- One column transfer: entry by entry, the columns from `o` of the rows the list names. -/
theorem gathered (o : ℕ) (hd : ∀ a, (![0, o] : Fin 2 → Nat) a + S128x128.size a ≤ S128x384.size a)
    (hs : ∀ a, (![0, o] : Fin 2 → Nat) a + S10240x128.size a ≤ S10240x384.size a)
    (g : S10240x384.Idx → Elt F .f32) (l : S128.Idx → Elt F .i32) (hn : S128.numel = S128x128.size gathers_S10240x128_S128x128.axis')
    (hin : ∀ x, (l x).toNat < S10240x128.size gathers_S10240x128_S128x128.axis) (x : S128x128.Idx) :
    SparseCore.gatherPayload gathers_S10240x128_S128x128
        (((yV).slice (Rect.unit (s := S10240x384) ![0, o] S10240x128.size hs) (fun _ => rfl)).view.read (Elt F) g)
        (SparseCore.rows (F := F) (si := S128) l hn hin) x
      = g (ix2 (rowOf (l (ix1 (x 0)))) ((Rect.unit (s := S128x384) ![0, o] S128x128.size hd).emb x 1)) := by
  unfold SparseCore.gatherPayload
  rw [View.read_apply]
  show g _ = g _
  congr 1; funext a
  match a with
  | 0 =>
    apply Fin.ext
    show 0 + 1 * (gathers_S10240x128_S128x128.idx _ x 0).val = _
    have h0 := congrArg Fin.val (Shape.Gathers.idx_axis gathers_S10240x128_S128x128 (SparseCore.rows (F := F) (si := S128) l hn hin) x)
    have h1 : (gathers_S10240x128_S128x128.idx (SparseCore.rows (F := F) (si := S128) l hn hin) x 0).val
        = (l (S128.rowMajor.symm (Fin.cast hn.symm (x 0)))).toNat := h0
    rw [symm_one (Fin.cast hn.symm (x 0)) (x 0) rfl] at h1
    rw [h1]
    have h2 : (l (ix1 (x 0))).toNat < 10240 := hin _
    show 0 + 1 * (l (ix1 (x 0))).toNat = (l (ix1 (x 0))).toNat % 10240
    rw [Nat.mod_eq_of_lt h2]; omega
  | 1 =>
    apply Fin.ext
    show o + 1 * (gathers_S10240x128_S128x128.idx _ x 1).val = o + 1 * (x 1).val
    rw [Shape.Gathers.idx_of_ne gathers_S10240x128_S128x128 _ x 1 (by decide)]
    rfl

/-- A staged block after a column transfer, on that column: the block of the rows taken. -/
theorem stagedA (o : ℕ) (hd : ∀ a, (![0, o] : Fin 2 → Nat) a + S128x128.size a ≤ S128x384.size a)
    (g : S10240x384.Idx → Elt F .f32) (p : S4096.Idx → Elt F .i32) (w : Fin 32) (h : S128x384.Idx → Elt F .f32)
    (pay : S128x128.Idx → Elt F .f32)
    (hp : ∀ x, pay x = g (ix2 (rowOf (listBlk p w (ix1 (x 0)))) ((Rect.unit (s := S128x384) ![0, o] S128x128.size hd).emb x 1))) :
    ∀ y ∈ (Rect.unit (s := S128x384) ![0, o] S128x128.size hd).set,
      (((raV).slice (Rect.unit (s := S128x384) ![0, o] S128x128.size hd) (fun _ => rfl)).view.write (Elt F) h pay
        Finset.univ) y = takenBlk g p w y := by
  intro y hy
  rw [← Rect.map_emb_univ, Finset.mem_map] at hy
  obtain ⟨x, -, rfl⟩ := hy
  refine (View.write_emb_of_mem (v := ((raV).slice (Rect.unit (s := S128x384) ![0, o] S128x128.size hd) (fun _ => rfl)).view) (Val := Elt F) _ _ (Finset.mem_univ x)).trans ?_
  rw [cast_eq]
  refine (hp x).trans ?_
  unfold takenBlk
  have e : (Rect.unit (s := S128x384) ![0, o] S128x128.size hd).emb x 0 = x 0 := by
    apply Fin.ext
    show 0 + 1 * (x 0).val = (x 0).val
    omega
  rw [e]

theorem stagedB (o : ℕ) (hd : ∀ a, (![0, o] : Fin 2 → Nat) a + S128x128.size a ≤ S128x384.size a)
    (g : S10240x384.Idx → Elt F .f32) (p : S4096.Idx → Elt F .i32) (w : Fin 32) (h : S128x384.Idx → Elt F .f32)
    (pay : S128x128.Idx → Elt F .f32)
    (hp : ∀ x, pay x = g (ix2 (rowOf (listBlk p w (ix1 (x 0)))) ((Rect.unit (s := S128x384) ![0, o] S128x128.size hd).emb x 1))) :
    ∀ y ∈ (Rect.unit (s := S128x384) ![0, o] S128x128.size hd).set,
      (((rbV).slice (Rect.unit (s := S128x384) ![0, o] S128x128.size hd) (fun _ => rfl)).view.write (Elt F) h pay
        Finset.univ) y = takenBlk g p w y := stagedA o hd g p w h pay hp

/-- The block a tile writes out: the rows taken. -/
theorem outA (L : grid1.Coords) (g : S10240x384.Idx → Elt F .f32) (p : S4096.Idx → Elt F .i32) (h : S4096x384.Idx → Elt F .f32)
    (pay : S128x384.Idx → Elt F .f32) (hp : pay = takenBlk g p (blkOf L)) :
    ∀ y ∈ (rrect L).set,
      (((aV).slice (rrect L) (fun _ => rfl)).view.write (Elt F) h pay Finset.univ) y = taken g p y := by
  subst hp
  intro y hy
  rw [← Rect.map_emb_univ, Finset.mem_map] at hy
  obtain ⟨x, -, rfl⟩ := hy
  refine (View.write_emb_of_mem (v := ((aV).slice (rrect L) (fun _ => rfl)).view) (Val := Elt F) _ _ (Finset.mem_univ x)).trans ?_
  rw [cast_eq]
  unfold takenBlk taken listBlk
  have h0 : (k1_off2 L) 0 = 128 * (blkOf L).val := by
    rw [k1_off2_eq]; simp only [blkOf, Matrix.cons_val_zero]; omega
  have h1 : (k1_off2 L) 1 = 0 := by rw [k1_off2_eq]; rfl
  have e0 : ((rrect L).emb x 0).val = 128 * (blkOf L).val + (x 0).val := by
    show (k1_off2 L) 0 + 1 * (x 0).val = _
    omega
  have e1 : (rrect L).emb x 1 = x 1 := by
    apply Fin.ext
    show (k1_off2 L) 1 + 1 * (x 1).val = _
    omega
  rw [e1]
  congr 5
  apply Fin.ext
  exact e0.symm
theorem outB (L : grid1.Coords) (g : S10240x384.Idx → Elt F .f32) (p : S4096.Idx → Elt F .i32) (h : S4096x384.Idx → Elt F .f32)
    (pay : S128x384.Idx → Elt F .f32) (hp : pay = takenBlk g p (blkOf L)) :
    ∀ y ∈ (rrect L).set,
      (((bV).slice (rrect L) (fun _ => rfl)).view.write (Elt F) h pay Finset.univ) y = taken g p y := outA L g p h pay hp

/-! ## The pieces of a buffer and of a share -/

section Pieces

variable (d : Dev nD) (L : grid1.Coords)

abbrev cV (L : grid1.Coords) : Fin τ.nSC := (L 0).castLE hcore1
abbrev jV (L : grid1.Coords) : Fin τ.nSub := (L 1).castLE hsub1

abbrev raC0 : Memref sig .scVector .vmem S128x128 .f32 := (raV).slice (Rect.unit (s := S128x384) ![0, 0] S128x128.size inb_S128x384_S128x128_0_0) (fun _ => rfl)
abbrev raC1 : Memref sig .scVector .vmem S128x128 .f32 := (raV).slice (Rect.unit (s := S128x384) ![0, 128] S128x128.size inb_S128x384_S128x128_0_128) (fun _ => rfl)
abbrev raC2 : Memref sig .scVector .vmem S128x128 .f32 := (raV).slice (Rect.unit (s := S128x384) ![0, 256] S128x128.size inb_S128x384_S128x128_0_256) (fun _ => rfl)
abbrev rbC0 : Memref sig .scVector .vmem S128x128 .f32 := (rbV).slice (Rect.unit (s := S128x384) ![0, 0] S128x128.size inb_S128x384_S128x128_0_0) (fun _ => rfl)
abbrev rbC1 : Memref sig .scVector .vmem S128x128 .f32 := (rbV).slice (Rect.unit (s := S128x384) ![0, 128] S128x128.size inb_S128x384_S128x128_0_128) (fun _ => rfl)
abbrev rbC2 : Memref sig .scVector .vmem S128x128 .f32 := (rbV).slice (Rect.unit (s := S128x384) ![0, 256] S128x128.size inb_S128x384_S128x128_0_256) (fun _ => rfl)
abbrev yC0 : Memref sig .scVector .hbm S10240x128 .f32 := (yV).slice (Rect.unit (s := S10240x384) ![0, 0] S10240x128.size inb_S10240x384_S10240x128_0_0) (fun _ => rfl)
abbrev yC1 : Memref sig .scVector .hbm S10240x128 .f32 := (yV).slice (Rect.unit (s := S10240x384) ![0, 128] S10240x128.size inb_S10240x384_S10240x128_0_128) (fun _ => rfl)
abbrev yC2 : Memref sig .scVector .hbm S10240x128 .f32 := (yV).slice (Rect.unit (s := S10240x384) ![0, 256] S10240x128.size inb_S10240x384_S10240x128_0_256) (fun _ => rfl)

theorem set_raC (o : ℕ) (hd : ∀ a, (![0, o] : Fin 2 → Nat) a + S128x128.size a ≤ S128x384.size a) :
    ((raV).slice (Rect.unit (s := S128x384) ![0, o] S128x128.size hd) (fun _ => rfl)).view.set
      = (Rect.unit (s := S128x384) ![0, o] S128x128.size hd).set := View.set_slice_whole _ _
theorem set_rbC (o : ℕ) (hd : ∀ a, (![0, o] : Fin 2 → Nat) a + S128x128.size a ≤ S128x384.size a) :
    ((rbV).slice (Rect.unit (s := S128x384) ![0, o] S128x128.size hd) (fun _ => rfl)).view.set
      = (Rect.unit (s := S128x384) ![0, o] S128x128.size hd).set := View.set_slice_whole _ _

/-- A resource over three, one by one. -/
theorem bigSep_three (Φ : Fin 3 → sProp 𝕄) : bigSep Finset.univ Φ = iprop(Φ 0 ∗ Φ 1 ∗ Φ 2) := by
  rw [SparseCore.bigSep_erase' (Finset.mem_univ (0 : Fin 3)), SparseCore.bigSep_erase' (show (1 : Fin 3) ∈ Finset.univ.erase 0 by decide),
    show ((Finset.univ : Finset (Fin 3)).erase 0).erase 1 = {2} by decide, bigSep_singleton]

theorem cols_join {ℓ : Loc nD τ sig} (R : Fin 3 → Finset (Idx ℓ)) (hd : ∀ a ∈ (Finset.univ : Finset (Fin 3)), ∀ b ∈ (Finset.univ : Finset (Fin 3)), a ≠ b → Disjoint (R a) (R b))
    (hc : Finset.univ.biUnion R = Finset.univ) (f : Buf (Elt F) ℓ) :
    (ℓ ↦{fullShare} f : sProp 𝕄) = iprop((ℓ ↦[R 0]{fullShare} f) ∗ (ℓ ↦[R 1]{fullShare} f) ∗ (ℓ ↦[R 2]{fullShare} f)) := by
  rw [← bigSep_three (fun k => (ℓ ↦[R k]{fullShare} f : sProp 𝕄)), ← pointsTo_biUnion _ R hd, hc]

theorem ra_cols (f : Buf (Elt F) ((V d (cV L) (jV L)).loc cc1_scratch2)) :
    ((raV).view.loc (V d (cV L) (jV L)) ↦{fullShare} f : sProp 𝕄)
      = iprop(((raC0).view.loc (V d (cV L) (jV L)) ↦[(raC0).view.set]{fullShare} f)
          ∗ ((raC1).view.loc (V d (cV L) (jV L)) ↦[(raC1).view.set]{fullShare} f)
          ∗ ((raC2).view.loc (V d (cV L) (jV L)) ↦[(raC2).view.set]{fullShare} f)) := by
  rw [set_raC, set_raC, set_raC, show Rect.unit (s := S128x384) ![0, 0] S128x128.size _ = _ from ccol_eq 0 _,
    show Rect.unit (s := S128x384) ![0, 128] S128x128.size _ = _ from ccol_eq 1 _, show Rect.unit (s := S128x384) ![0, 256] S128x128.size _ = _ from ccol_eq 2 _]
  exact cols_join (ℓ := (V d (cV L) (jV L)).loc cc1_scratch2) (fun k => (ccol k).set) (fun a _ b _ h => Rect.part_disjoint cdiv h) (Rect.biUnion_part cdiv) f
theorem rb_cols (f : Buf (Elt F) ((V d (cV L) (jV L)).loc cc1_scratch3)) :
    ((rbV).view.loc (V d (cV L) (jV L)) ↦{fullShare} f : sProp 𝕄)
      = iprop(((rbC0).view.loc (V d (cV L) (jV L)) ↦[(rbC0).view.set]{fullShare} f)
          ∗ ((rbC1).view.loc (V d (cV L) (jV L)) ↦[(rbC1).view.set]{fullShare} f)
          ∗ ((rbC2).view.loc (V d (cV L) (jV L)) ↦[(rbC2).view.set]{fullShare} f)) := by
  rw [set_rbC, set_rbC, set_rbC, show Rect.unit (s := S128x384) ![0, 0] S128x128.size _ = _ from ccol_eq 0 _,
    show Rect.unit (s := S128x384) ![0, 128] S128x128.size _ = _ from ccol_eq 1 _, show Rect.unit (s := S128x384) ![0, 256] S128x128.size _ = _ from ccol_eq 2 _]
  exact cols_join (ℓ := (V d (cV L) (jV L)).loc cc1_scratch3) (fun k => (ccol k).set) (fun a _ b _ h => Rect.part_disjoint cdiv h) (Rect.biUnion_part cdiv) f

/-- Piece `k` of three of a share. -/
abbrev third (q : PosShare TreeShare) (k : Fin 3) : PosShare TreeShare := pieceOf q 3 (by decide) k
theorem thirds {ℓ : Loc nD τ sig} (I : Finset (Idx ℓ)) (f : Buf (Elt F) ℓ) (q : PosShare TreeShare) :
    (ℓ ↦[I]{q} f : sProp 𝕄) = iprop((ℓ ↦[I]{third q 0} f) ∗ (ℓ ↦[I]{third q 1} f) ∗ (ℓ ↦[I]{third q 2} f)) := by
  rw [← bigSep_three (fun k => (ℓ ↦[I]{third q k} f : sProp 𝕄)), ← pointsTo_piecesOf]

end Pieces

end Cert.Proof

end
-- ==== Proof.Tile.lean ====
/-
  One tile of the two-gather call: it fetches its block of each list of row numbers, issues six column transfers of the
  rows the lists name (three for each result, each on a cell of its own), waits for a result's three, and starts the
  write-out of its block; both write-outs are on one cell and are waited for at the end. It takes a share of the rows and
  of the two lists, and its blocks of the two results, and brings them back with each block at the rows taken.
-/
module

public import proofs.«01_k».proof.Proof.Blocks

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "yV" => (Memref.whole Cert.KernelIdeal.main_v3_scv : Memref Cert.KernelIdeal.sig Kind.scVector Space.hbm Cert.KernelIdeal.S10240x384 EltTy.f32)
local notation "p0V" => (Memref.whole Cert.KernelIdeal.main_arg10_scv : Memref Cert.KernelIdeal.sig Kind.scVector Space.hbm Cert.KernelIdeal.S4096 EltTy.i32)
local notation "p1V" => (Memref.whole Cert.KernelIdeal.main_arg11_scv : Memref Cert.KernelIdeal.sig Kind.scVector Space.hbm Cert.KernelIdeal.S4096 EltTy.i32)
local notation "aV" => (Memref.whole Cert.KernelIdeal.main_v4_0_scv : Memref Cert.KernelIdeal.sig Kind.scVector Space.hbm Cert.KernelIdeal.S4096x384 EltTy.f32)
local notation "bV" => (Memref.whole Cert.KernelIdeal.main_v4_1_scv : Memref Cert.KernelIdeal.sig Kind.scVector Space.hbm Cert.KernelIdeal.S4096x384 EltTy.f32)
local notation "i0V" => (Memref.whole Cert.KernelIdeal.cc1_scratch0 : Memref Cert.KernelIdeal.sig Kind.scVector Space.vmem Cert.KernelIdeal.S128 EltTy.i32)
local notation "i1V" => (Memref.whole Cert.KernelIdeal.cc1_scratch1 : Memref Cert.KernelIdeal.sig Kind.scVector Space.vmem Cert.KernelIdeal.S128 EltTy.i32)
local notation "raV" => (Memref.whole Cert.KernelIdeal.cc1_scratch2 : Memref Cert.KernelIdeal.sig Kind.scVector Space.vmem Cert.KernelIdeal.S128x384 EltTy.f32)
local notation "rbV" => (Memref.whole Cert.KernelIdeal.cc1_scratch3 : Memref Cert.KernelIdeal.sig Kind.scVector Space.vmem Cert.KernelIdeal.S128x384 EltTy.f32)

variable (m : (ℓ : Loc nD τ sig) → Buf (Elt F) ℓ)

/-- What the proof asks of the launch memory: every entry of the two lists names a row. -/
def RowsOK : Prop := ∀ (d : Dev nD) (j : S4096.Idx), (m (p0Loc d) j).toNat < 10240 ∧ (m (p1Loc d) j).toNat < 10240

section Own

variable (d : Dev nD) (L : grid1.Coords)

/-- The cell of a DMA semaphore on the tile. -/
abbrev cellOf (s : DmaSem sig) : GSem nD τ sig := (V d (cV L) (jV L), .dma s)

omit m in
theorem mem_cell {s : DmaSem sig} (h : (SemLoc.dma s : SemLoc sig).isScoped .scVector = true) : cellOf d L s ∈ ownCells (V d (cV L) (jV L)) :=
  mem_ownCells.mpr ⟨rfl, h⟩
omit m in
theorem cell_ne {s t : DmaSem sig} (h : s ≠ t) : cellOf d L s ≠ cellOf d L t := fun e => by
  have := (Prod.mk.inj e).2
  exact h (SemLoc.dma.inj this)

omit m in
set_option maxHeartbeats 1000000 in
/-- The nine cells the tile waits on are among its own. -/
theorem ownSems0_tile :
    (ownSems0 (V d (cV L) (jV L)) : sProp 𝕄)
      = iprop(semVal (cellOf d L cc1_scratch4.sem) 0 ∗ semVal (cellOf d L cc1_scratch5.sem) 0 ∗ semVal (cellOf d L cc1_scratch6.sem) 0 ∗ semVal (cellOf d L cc1_scratch7.sem) 0 ∗ semVal (cellOf d L cc1_scratch8.sem) 0 ∗ semVal (cellOf d L cc1_scratch9.sem) 0 ∗ semVal (cellOf d L cc1_scratch10.sem) 0 ∗ semVal (cellOf d L cc1_scoped0.sem) 0 ∗ semVal (cellOf d L cc1_scoped1.sem) 0
          ∗ bigSep (((((((((((((((((((ownCells (V d (cV L) (jV L))).erase (cellOf d L cc1_scratch4.sem))).erase (cellOf d L cc1_scratch5.sem))).erase (cellOf d L cc1_scratch6.sem))).erase (cellOf d L cc1_scratch7.sem))).erase (cellOf d L cc1_scratch8.sem))).erase (cellOf d L cc1_scratch9.sem))).erase (cellOf d L cc1_scratch10.sem))).erase (cellOf d L cc1_scoped0.sem))).erase (cellOf d L cc1_scoped1.sem))) fun g => semVal g 0) := by
  unfold SparseCore.Cfg.ownSems0
  rw [SparseCore.bigSep_erase' (i := cellOf d L cc1_scratch4.sem) (mem_cell d L (by decide))]
  rw [SparseCore.bigSep_erase' (i := cellOf d L cc1_scratch5.sem) (Finset.mem_erase.mpr ⟨cell_ne d L (by decide), (mem_cell d L (by decide))⟩)]
  rw [SparseCore.bigSep_erase' (i := cellOf d L cc1_scratch6.sem) (Finset.mem_erase.mpr ⟨cell_ne d L (by decide), (Finset.mem_erase.mpr ⟨cell_ne d L (by decide), (mem_cell d L (by decide))⟩)⟩)]
  rw [SparseCore.bigSep_erase' (i := cellOf d L cc1_scratch7.sem) (Finset.mem_erase.mpr ⟨cell_ne d L (by decide), (Finset.mem_erase.mpr ⟨cell_ne d L (by decide), (Finset.mem_erase.mpr ⟨cell_ne d L (by decide), (mem_cell d L (by decide))⟩)⟩)⟩)]
  rw [SparseCore.bigSep_erase' (i := cellOf d L cc1_scratch8.sem) (Finset.mem_erase.mpr ⟨cell_ne d L (by decide), (Finset.mem_erase.mpr ⟨cell_ne d L (by decide), (Finset.mem_erase.mpr ⟨cell_ne d L (by decide), (Finset.mem_erase.mpr ⟨cell_ne d L (by decide), (mem_cell d L (by decide))⟩)⟩)⟩)⟩)]
  rw [SparseCore.bigSep_erase' (i := cellOf d L cc1_scratch9.sem) (Finset.mem_erase.mpr ⟨cell_ne d L (by decide), (Finset.mem_erase.mpr ⟨cell_ne d L (by decide), (Finset.mem_erase.mpr ⟨cell_ne d L (by decide), (Finset.mem_erase.mpr ⟨cell_ne d L (by decide), (Finset.mem_erase.mpr ⟨cell_ne d L (by decide), (mem_cell d L (by decide))⟩)⟩)⟩)⟩)⟩)]
  rw [SparseCore.bigSep_erase' (i := cellOf d L cc1_scratch10.sem) (Finset.mem_erase.mpr ⟨cell_ne d L (by decide), (Finset.mem_erase.mpr ⟨cell_ne d L (by decide), (Finset.mem_erase.mpr ⟨cell_ne d L (by decide), (Finset.mem_erase.mpr ⟨cell_ne d L (by decide), (Finset.mem_erase.mpr ⟨cell_ne d L (by decide), (Finset.mem_erase.mpr ⟨cell_ne d L (by decide), (mem_cell d L (by decide))⟩)⟩)⟩)⟩)⟩)⟩)]
  rw [SparseCore.bigSep_erase' (i := cellOf d L cc1_scoped0.sem) (Finset.mem_erase.mpr ⟨cell_ne d L (by decide), (Finset.mem_erase.mpr ⟨cell_ne d L (by decide), (Finset.mem_erase.mpr ⟨cell_ne d L (by decide), (Finset.mem_erase.mpr ⟨cell_ne d L (by decide), (Finset.mem_erase.mpr ⟨cell_ne d L (by decide), (Finset.mem_erase.mpr ⟨cell_ne d L (by decide), (Finset.mem_erase.mpr ⟨cell_ne d L (by decide), (mem_cell d L (by decide))⟩)⟩)⟩)⟩)⟩)⟩)⟩)]
  rw [SparseCore.bigSep_erase' (i := cellOf d L cc1_scoped1.sem) (Finset.mem_erase.mpr ⟨cell_ne d L (by decide), (Finset.mem_erase.mpr ⟨cell_ne d L (by decide), (Finset.mem_erase.mpr ⟨cell_ne d L (by decide), (Finset.mem_erase.mpr ⟨cell_ne d L (by decide), (Finset.mem_erase.mpr ⟨cell_ne d L (by decide), (Finset.mem_erase.mpr ⟨cell_ne d L (by decide), (Finset.mem_erase.mpr ⟨cell_ne d L (by decide), (Finset.mem_erase.mpr ⟨cell_ne d L (by decide), (mem_cell d L (by decide))⟩)⟩)⟩)⟩)⟩)⟩)⟩)⟩)]

/-- A buffer of the tile. -/
abbrev bufOf (r : Ref sig .scVector) : DevRef τ sig := (Proc.scVector (cV L) (jV L)).devRef r

omit m in
theorem mem_buf {r : Ref sig .scVector} (h : (bufOf L r).owner = .proc (.scVector (cV L) (jV L))) :
    bufOf L r ∈ ownRefs (τ := τ) (sig := sig) (.scVector (cV L) (jV L)) :=
  SparseCore.Cfg.mem_ownRefs_of_owner h
omit m in
theorem buf_ne {r s : Ref sig .scVector} (h : r ≠ s) : bufOf L r ≠ bufOf L s := fun e => h (Proc.devRef_injective _ e)

omit m in
/-- The two lists and the two staged blocks are among the tile's own buffers. -/
theorem ownBufs_tile :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f) ∗ (∃ f, (V d (cV L) (jV L)).loc cc1_scratch2 ↦{fullShare} f) ∗ (∃ f, (V d (cV L) (jV L)).loc cc1_scratch3 ↦{fullShare} f)
          ∗ bigSep (((((((((ownRefs (τ := τ) (.scVector (cV L) (jV L))).erase (bufOf L cc1_scratch0))).erase (bufOf L cc1_scratch1))).erase (bufOf L cc1_scratch2))).erase (bufOf L cc1_scratch3))) fun b => iprop(∃ f, ((d, b) : Loc nD τ sig) ↦{fullShare} f)) := by
  unfold SparseCore.Cfg.ownBufs
  refine (SparseCore.bigSep_erase' (i := bufOf L cc1_scratch0) (mem_buf L rfl)).trans ?_
  rw [SparseCore.bigSep_erase' (i := bufOf L cc1_scratch1) (Finset.mem_erase.mpr ⟨buf_ne L (by decide), (mem_buf L rfl)⟩)]
  rw [SparseCore.bigSep_erase' (i := bufOf L cc1_scratch2) (Finset.mem_erase.mpr ⟨buf_ne L (by decide), (Finset.mem_erase.mpr ⟨buf_ne L (by decide), (mem_buf L rfl)⟩)⟩)]
  rw [SparseCore.bigSep_erase' (i := bufOf L cc1_scratch3) (Finset.mem_erase.mpr ⟨buf_ne L (by decide), (Finset.mem_erase.mpr ⟨buf_ne L (by decide), (Finset.mem_erase.mpr ⟨buf_ne L (by decide), (mem_buf L rfl)⟩)⟩)⟩)]

omit m in
theorem pts_list0 (q : PosShare TreeShare) (f : Buf (Elt F) (p0Loc d)) :
    (((p0V).slice (lrect L) (fun _ => rfl)).view.loc (V d (cV L) (jV L)) ↦[((p0V).slice (lrect L) (fun _ => rfl)).view.set]{q} f : sProp 𝕄)
      = p0Loc d ↦[((p0V).slice (lrect L) (fun _ => rfl)).view.set]{q} f := rfl
/-- The lists as fetched. -/
theorem landed_list0 (f : Buf (Elt F) ((V d (cV L) (jV L)).loc cc1_scratch0)) (pay : S128.Idx → Elt F .i32)
    (hp : pay = ((p0V).slice (lrect L) (fun _ => rfl)).view.read (Elt F) (m (p0Loc d))) :
    ((i0V).view.loc (V d (cV L) (jV L)) ↦{fullShare} View.write (Elt F) (i0V).view f pay Finset.univ : sProp 𝕄)
      = ((i0V).view.loc (V d (cV L) (jV L)) ↦{fullShare} (listBlk (m (p0Loc d)) (blkOf L) : Buf (Elt F) ((V d (cV L) (jV L)).loc cc1_scratch0))) := by
  rw [hp, read_list0, View.write_whole_univ]
theorem landed_list1 (f : Buf (Elt F) ((V d (cV L) (jV L)).loc cc1_scratch1)) (pay : S128.Idx → Elt F .i32)
    (hp : pay = ((p1V).slice (lrect L) (fun _ => rfl)).view.read (Elt F) (m (p1Loc d))) :
    ((i1V).view.loc (V d (cV L) (jV L)) ↦{fullShare} View.write (Elt F) (i1V).view f pay Finset.univ : sProp 𝕄)
      = ((i1V).view.loc (V d (cV L) (jV L)) ↦{fullShare} (listBlk (m (p1Loc d)) (blkOf L) : Buf (Elt F) ((V d (cV L) (jV L)).loc cc1_scratch1))) := by
  rw [hp, read_list1, View.write_whole_univ]

omit m in
/-- A list's buffer, as a transfer addresses it. -/
theorem list_set0 (q : PosShare TreeShare) (f : Buf (Elt F) ((V d (cV L) (jV L)).loc cc1_scratch0)) :
    ((i0V).view.loc (V d (cV L) (jV L)) ↦[(i0V).view.set]{q} f : sProp 𝕄) = ((i0V).view.loc (V d (cV L) (jV L)) ↦{q} f) := by
  rw [show (i0V).view.set = Finset.univ from View.set_whole _]
omit m in
theorem list_set1 (q : PosShare TreeShare) (f : Buf (Elt F) ((V d (cV L) (jV L)).loc cc1_scratch1)) :
    ((i1V).view.loc (V d (cV L) (jV L)) ↦[(i1V).view.set]{q} f : sProp 𝕄) = ((i1V).view.loc (V d (cV L) (jV L)) ↦{q} f) := by
  rw [show (i1V).view.set = Finset.univ from View.set_whole _]
/-- Every entry of a fetched list names a row. -/
theorem list_inb0 (hpre : RowsOK m) (x : S128.Idx) :
    ((i0V).view.read (Elt F) (listBlk (m (p0Loc d)) (blkOf L) : Buf (Elt F) ((V d (cV L) (jV L)).loc cc1_scratch0)) x).toNat
      < S10240x128.size gathers_S10240x128_S128x128.axis := (hpre d _).1
theorem list_inb1 (hpre : RowsOK m) (x : S128.Idx) :
    ((i1V).view.read (Elt F) (listBlk (m (p1Loc d)) (blkOf L) : Buf (Elt F) ((V d (cV L) (jV L)).loc cc1_scratch1)) x).toNat
      < S10240x128.size gathers_S10240x128_S128x128.axis := (hpre d _).2
omit m in
/-- The credits of a column transfer's rows are the credit it is waited for with. -/
theorem credit_rows_a (o : ℕ) (hd : ∀ a, (![0, o] : Fin 2 → Nat) a + S128x128.size a ≤ S128x384.size a) (h : S10240x128.Gathers 0 S128x128) :
    ∑ j, (((raV).slice (Rect.unit (s := S128x384) ![0, o] S128x128.size hd) (fun _ => rfl)).slice (S128x128.rowRect h.axis' j) (S128x128.stride_rowRect h.axis' j)).view.dmaCredit
      = ((raV).slice (Rect.unit (s := S128x384) ![0, o] S128x128.size hd) (fun _ => rfl)).view.dmaCredit :=
  SparseCore.sum_rowCredit_eq_dmaCredit _ _ fun _ => rfl
omit m in
theorem credit_rows_b (o : ℕ) (hd : ∀ a, (![0, o] : Fin 2 → Nat) a + S128x128.size a ≤ S128x384.size a) (h : S10240x128.Gathers 0 S128x128) :
    ∑ j, (((rbV).slice (Rect.unit (s := S128x384) ![0, o] S128x128.size hd) (fun _ => rfl)).slice (S128x128.rowRect h.axis' j) (S128x128.stride_rowRect h.axis' j)).view.dmaCredit
      = ((rbV).slice (Rect.unit (s := S128x384) ![0, o] S128x128.size hd) (fun _ => rfl)).view.dmaCredit :=
  SparseCore.sum_rowCredit_eq_dmaCredit _ _ fun _ => rfl
/-- A column transfer's landing: on its columns, the block of the rows taken. -/
theorem col_a (hpre : RowsOK m) (o : ℕ) (hd : ∀ a, (![0, o] : Fin 2 → Nat) a + S128x128.size a ≤ S128x384.size a)
    (hs : ∀ a, (![0, o] : Fin 2 → Nat) a + S10240x128.size a ≤ S10240x384.size a) (f : Buf (Elt F) ((V d (cV L) (jV L)).loc cc1_scratch2)) :
    (((raV).slice (Rect.unit (s := S128x384) ![0, o] S128x128.size hd) (fun _ => rfl)).view.loc (V d (cV L) (jV L))
        ↦[((raV).slice (Rect.unit (s := S128x384) ![0, o] S128x128.size hd) (fun _ => rfl)).view.set]{fullShare}
          ((raV).slice (Rect.unit (s := S128x384) ![0, o] S128x128.size hd) (fun _ => rfl)).view.write (Elt F) f
            (SparseCore.gatherPayload gathers_S10240x128_S128x128
              (((yV).slice (Rect.unit (s := S10240x384) ![0, o] S10240x128.size hs) (fun _ => rfl)).view.read (Elt F) (m (yLoc d)))
              (SparseCore.rows (F := F) (si := S128) ((i0V).view.read (Elt F) (listBlk (m (p0Loc d)) (blkOf L) : Buf (Elt F) ((V d (cV L) (jV L)).loc cc1_scratch0))) rfl
                (list_inb0 m d L hpre))) Finset.univ : sProp 𝕄)
      = (((raV).slice (Rect.unit (s := S128x384) ![0, o] S128x128.size hd) (fun _ => rfl)).view.loc (V d (cV L) (jV L))
        ↦[((raV).slice (Rect.unit (s := S128x384) ![0, o] S128x128.size hd) (fun _ => rfl)).view.set]{fullShare}
          (takenBlk (m (yLoc d)) (m (p0Loc d)) (blkOf L) : Buf (Elt F) ((V d (cV L) (jV L)).loc cc1_scratch2))) := by
  refine pointsTo_congr fun y hy => ?_
  rw [set_raC] at hy
  exact stagedA o hd (m (yLoc d)) (m (p0Loc d)) (blkOf L) f _
    (fun x => gathered o hd hs (m (yLoc d)) (listBlk (m (p0Loc d)) (blkOf L)) rfl (list_inb0 m d L hpre) x) y hy
/-- A column transfer's landing: on its columns, the block of the rows taken. -/
theorem col_b (hpre : RowsOK m) (o : ℕ) (hd : ∀ a, (![0, o] : Fin 2 → Nat) a + S128x128.size a ≤ S128x384.size a)
    (hs : ∀ a, (![0, o] : Fin 2 → Nat) a + S10240x128.size a ≤ S10240x384.size a) (f : Buf (Elt F) ((V d (cV L) (jV L)).loc cc1_scratch3)) :
    (((rbV).slice (Rect.unit (s := S128x384) ![0, o] S128x128.size hd) (fun _ => rfl)).view.loc (V d (cV L) (jV L))
        ↦[((rbV).slice (Rect.unit (s := S128x384) ![0, o] S128x128.size hd) (fun _ => rfl)).view.set]{fullShare}
          ((rbV).slice (Rect.unit (s := S128x384) ![0, o] S128x128.size hd) (fun _ => rfl)).view.write (Elt F) f
            (SparseCore.gatherPayload gathers_S10240x128_S128x128
              (((yV).slice (Rect.unit (s := S10240x384) ![0, o] S10240x128.size hs) (fun _ => rfl)).view.read (Elt F) (m (yLoc d)))
              (SparseCore.rows (F := F) (si := S128) ((i1V).view.read (Elt F) (listBlk (m (p1Loc d)) (blkOf L) : Buf (Elt F) ((V d (cV L) (jV L)).loc cc1_scratch1))) rfl
                (list_inb1 m d L hpre))) Finset.univ : sProp 𝕄)
      = (((rbV).slice (Rect.unit (s := S128x384) ![0, o] S128x128.size hd) (fun _ => rfl)).view.loc (V d (cV L) (jV L))
        ↦[((rbV).slice (Rect.unit (s := S128x384) ![0, o] S128x128.size hd) (fun _ => rfl)).view.set]{fullShare}
          (takenBlk (m (yLoc d)) (m (p1Loc d)) (blkOf L) : Buf (Elt F) ((V d (cV L) (jV L)).loc cc1_scratch3))) := by
  refine pointsTo_congr fun y hy => ?_
  rw [set_rbC] at hy
  exact stagedB o hd (m (yLoc d)) (m (p1Loc d)) (blkOf L) f _
    (fun x => gathered o hd hs (m (yLoc d)) (listBlk (m (p1Loc d)) (blkOf L)) rfl (list_inb1 m d L hpre) x) y hy
/-- Piece `k` of two of a share. -/
abbrev half (q : PosShare TreeShare) (k : Fin 2) : PosShare TreeShare := pieceOf q 2 (by decide) k
omit m in
theorem halves {ℓ : Loc nD τ sig} (I : Finset (Idx ℓ)) (f : Buf (Elt F) ℓ) (q : PosShare TreeShare) :
    (ℓ ↦[I]{q} f : sProp 𝕄) = iprop((ℓ ↦[I]{half q 0} f) ∗ (ℓ ↦[I]{half q 1} f)) := by
  rw [pointsTo_piecesOf I f (o := 2) (by decide) q, SparseCore.bigSep_erase' (Finset.mem_univ (0 : Fin 2)),
    show (Finset.univ : Finset (Fin 2)).erase 0 = {1} by decide, bigSep_singleton]

omit m in
theorem set_aOut : ((aV).slice (rrect L) (fun _ => rfl)).view.set = (orow (blkOf L)).set := by
  rw [← rrect_eq]; exact View.set_slice_whole _ _
omit m in
theorem set_bOut : ((bV).slice (rrect L) (fun _ => rfl)).view.set = (orow (blkOf L)).set := by
  rw [← rrect_eq]; exact View.set_slice_whole _ _
omit m in
theorem pts_aOut (f : Buf (Elt F) (aLoc d)) :
    (((aV).slice (rrect L) (fun _ => rfl)).view.loc (V d (cV L) (jV L)) ↦[((aV).slice (rrect L) (fun _ => rfl)).view.set]{fullShare} f : sProp 𝕄)
      = aLoc d ↦[(orow (blkOf L)).set]{fullShare} f := by rw [set_aOut]
omit m in
theorem pts_bOut (f : Buf (Elt F) (bLoc d)) :
    (((bV).slice (rrect L) (fun _ => rfl)).view.loc (V d (cV L) (jV L)) ↦[((bV).slice (rrect L) (fun _ => rfl)).view.set]{fullShare} f : sProp 𝕄)
      = bLoc d ↦[(orow (blkOf L)).set]{fullShare} f := by rw [set_bOut]
omit m in
/-- A result's block as written out: the rows taken. -/
theorem written_a (g : S10240x384.Idx → Elt F .f32) (p : S4096.Idx → Elt F .i32) (h : S4096x384.Idx → Elt F .f32) :
    ((((aV).slice (rrect L) (fun _ => rfl)).view.loc (V d (cV L) (jV L)) ↦[((aV).slice (rrect L) (fun _ => rfl)).view.set]{fullShare}
        (((aV).slice (rrect L) (fun _ => rfl)).view.write (Elt F) h (ReadAs.same.apply ((raV).view.read (Elt F) (takenBlk g p (blkOf L) : Buf (Elt F) ((V d (cV L) (jV L)).loc cc1_scratch2)))) Finset.univ)) : sProp 𝕄)
      = (aLoc d ↦[(orow (blkOf L)).set]{fullShare} (taken g p : Buf (Elt F) (aLoc d))) := by
  rw [pts_aOut]
  refine pointsTo_congr fun y hy => ?_
  rw [← rrect_eq] at hy
  rw [ReadAs.apply_same]
  exact outA L g p h _ (View.read_whole cc1_scratch2 _) y hy
omit m in
/-- A result's block as written out: the rows taken. -/
theorem written_b (g : S10240x384.Idx → Elt F .f32) (p : S4096.Idx → Elt F .i32) (h : S4096x384.Idx → Elt F .f32) :
    ((((bV).slice (rrect L) (fun _ => rfl)).view.loc (V d (cV L) (jV L)) ↦[((bV).slice (rrect L) (fun _ => rfl)).view.set]{fullShare}
        (((bV).slice (rrect L) (fun _ => rfl)).view.write (Elt F) h (ReadAs.same.apply ((rbV).view.read (Elt F) (takenBlk g p (blkOf L) : Buf (Elt F) ((V d (cV L) (jV L)).loc cc1_scratch3)))) Finset.univ)) : sProp 𝕄)
      = (bLoc d ↦[(orow (blkOf L)).set]{fullShare} (taken g p : Buf (Elt F) (bLoc d))) := by
  rw [pts_bOut]
  refine pointsTo_congr fun y hy => ?_
  rw [← rrect_eq] at hy
  rw [ReadAs.apply_same]
  exact outB L g p h _ (View.read_whole cc1_scratch3 _) y hy
omit m in
/-- The part of a share of the rows that one column transfer reads, and the rest. -/
theorem lend {ℓ : Loc nD τ sig} (I : Finset (Idx ℓ)) (q : PosShare TreeShare) (f : Buf (Elt F) ℓ) :
    (ℓ ↦{q} f : sProp 𝕄) = iprop((ℓ ↦[I]{q} f) ∗ (ℓ ↦[Finset.univ \ I]{q} f)) :=
  BI.Entails.antisymm (pointsTo_split_subset (Finset.subset_univ I)).1 (pointsTo_split_subset (Finset.subset_univ I)).2

end Own

/-- What a tile holds of the five arrays: a share of the rows and of the lists, its blocks of the results. -/
def tileRes (d : Dev nD) (q : PosShare TreeShare) (w : Fin 32) (fa : Buf (Elt F) (aLoc d)) (fb : Buf (Elt F) (bLoc d)) : sProp 𝕄 :=
  iprop((yLoc d ↦{q} m (yLoc d)) ∗ (p0Loc d ↦{q} m (p0Loc d)) ∗ (p1Loc d ↦{q} m (p1Loc d))
    ∗ (aLoc d ↦[(orow w).set]{fullShare} fa) ∗ (bLoc d ↦[(orow w).set]{fullShare} fb))

section Body

variable (d : Dev nD) (L : grid1.Coords)

/-- What the two write-outs deliver: a result's block at the rows taken, and the staged block back. -/
def outD (t : Fin 2) : sProp 𝕄 :=
  match t with
  | 0 => iprop((aLoc d ↦[(orow (blkOf L)).set]{fullShare} (taken (m (yLoc d)) (m (p0Loc d)) : Buf (Elt F) (aLoc d)))
      ∗ ((raV).view.loc (V d (cV L) (jV L)) ↦{fullShare} (takenBlk (m (yLoc d)) (m (p0Loc d)) (blkOf L) : Buf (Elt F) ((V d (cV L) (jV L)).loc cc1_scratch2))))
  | 1 => iprop((bLoc d ↦[(orow (blkOf L)).set]{fullShare} (taken (m (yLoc d)) (m (p1Loc d)) : Buf (Elt F) (bLoc d)))
      ∗ ((rbV).view.loc (V d (cV L) (jV L)) ↦{fullShare} (takenBlk (m (yLoc d)) (m (p1Loc d)) (blkOf L) : Buf (Elt F) ((V d (cV L) (jV L)).loc cc1_scratch3))))

instance outD_storable : ∀ t, BI.Storable (upEmb : UEmb _ 𝕄) (outD m d L t)
  | 0 => by unfold outD; infer_instance
  | 1 => by unfold outD; infer_instance

/-- The credit of one write-out. -/
def outN : ℕ := ((aV).slice (rrect L) (fun _ => rfl)).view.dmaCredit
/-- The write-outs' cell before the first of them, and the batch of the two with `k` issued and `u` units consumed. -/
def outCell : sProp 𝕄 := semVal (cellOf d L cc1_scratch10.sem) 0
def outBatch (k u : ℕ) : sProp 𝕄 :=
  Transfers.Batch countersEmb (V d (cV L) (jV L)) (.dma cc1_scratch10.sem) (default : HIx 1) (outN L) (outD m d L) k u

theorem outBatch_start : (outCell d L : sProp 𝕄) ⊢ |={Set.univ}=> outBatch m d L 0 0 :=
  Transfers.batch_alloc' countersEmb (V d (cV L) (jV L)) (default : HIx 1) _ (outD m d L)

theorem out_pos : 0 < outN L := View.dmaCredit_pos ((aV).slice (rrect L) (fun _ => rfl)).view (show 0 < S128x384.numel by decide)

theorem two_more {N : ℕ} (h : 0 < N) : 0 + N < N * 2 := by omega
theorem two_done (N : ℕ) : 0 + N + N = N * 2 := by omega
theorem outD_both : bigSep Finset.univ (outD m d L) = iprop(outD m d L 0 ∗ outD m d L 1) := by
  rw [SparseCore.bigSep_erase' (Finset.mem_univ (0 : Fin 2)), show (Finset.univ : Finset (Fin 2)).erase 0 = {1} by decide, bigSep_singleton]

theorem deliver_a :
    iprop((((aV).slice (rrect L) (fun _ => rfl)).view.loc (V d (cV L) (jV L)) ↦[((aV).slice (rrect L) (fun _ => rfl)).view.set]{fullShare}
        (((aV).slice (rrect L) (fun _ => rfl)).view.write (Elt F) (m (aLoc d)) (ReadAs.same.apply ((raV).view.read (Elt F) (takenBlk (m (yLoc d)) (m (p0Loc d)) (blkOf L) : Buf (Elt F) ((V d (cV L) (jV L)).loc cc1_scratch2)))) Finset.univ))
      ∗ ((raV).view.loc (V d (cV L) (jV L)) ↦[(raV).view.set]{fullShare} (takenBlk (m (yLoc d)) (m (p0Loc d)) (blkOf L) : Buf (Elt F) ((V d (cV L) (jV L)).loc cc1_scratch2))))
      ⊢ outD m d L 0 := by
  have h1 := written_a (F := F) d L (m (yLoc d)) (m (p0Loc d)) (m (aLoc d))
  have h2 : ((raV).view.loc (V d (cV L) (jV L)) ↦[(raV).view.set]{fullShare} (takenBlk (m (yLoc d)) (m (p0Loc d)) (blkOf L) : Buf (Elt F) ((V d (cV L) (jV L)).loc cc1_scratch2)) : sProp 𝕄)
      = ((raV).view.loc (V d (cV L) (jV L)) ↦{fullShare} (takenBlk (m (yLoc d)) (m (p0Loc d)) (blkOf L) : Buf (Elt F) ((V d (cV L) (jV L)).loc cc1_scratch2))) := by
    rw [show (raV).view.set = Finset.univ from View.set_whole _]
  unfold outD
  iintro ⟨H1, H2⟩
  isplitl [H1]
  · iapply (Entails.of_eq h1); iexact H1
  · iapply (Entails.of_eq h2); iexact H2
theorem deliver_b :
    iprop((((bV).slice (rrect L) (fun _ => rfl)).view.loc (V d (cV L) (jV L)) ↦[((bV).slice (rrect L) (fun _ => rfl)).view.set]{fullShare}
        (((bV).slice (rrect L) (fun _ => rfl)).view.write (Elt F) (m (bLoc d)) (ReadAs.same.apply ((rbV).view.read (Elt F) (takenBlk (m (yLoc d)) (m (p1Loc d)) (blkOf L) : Buf (Elt F) ((V d (cV L) (jV L)).loc cc1_scratch3)))) Finset.univ))
      ∗ ((rbV).view.loc (V d (cV L) (jV L)) ↦[(rbV).view.set]{fullShare} (takenBlk (m (yLoc d)) (m (p1Loc d)) (blkOf L) : Buf (Elt F) ((V d (cV L) (jV L)).loc cc1_scratch3))))
      ⊢ outD m d L 1 := by
  have h1 := written_b (F := F) d L (m (yLoc d)) (m (p1Loc d)) (m (bLoc d))
  have h2 : ((rbV).view.loc (V d (cV L) (jV L)) ↦[(rbV).view.set]{fullShare} (takenBlk (m (yLoc d)) (m (p1Loc d)) (blkOf L) : Buf (Elt F) ((V d (cV L) (jV L)).loc cc1_scratch3)) : sProp 𝕄)
      = ((rbV).view.loc (V d (cV L) (jV L)) ↦{fullShare} (takenBlk (m (yLoc d)) (m (p1Loc d)) (blkOf L) : Buf (Elt F) ((V d (cV L) (jV L)).loc cc1_scratch3))) := by
    rw [show (rbV).view.set = Finset.univ from View.set_whole _]
  unfold outD
  iintro ⟨H1, H2⟩
  isplitl [H1]
  · iapply (Entails.of_eq h1); iexact H1
  · iapply (Entails.of_eq h2); iexact H2

set_option maxHeartbeats 8000000 in
set_option maxRecDepth 65536 in
theorem tile_body (hF : (K (F := F)).Facts) (hpre : RowsOK m) (q : PosShare TreeShare) (O : CellTallies nD τ sig (HIx 1)) (W : Waits sig (HIx 1)) (hO : ∀ g, O g none = 0) :
    iprop(levAts (K (F := F)).L (K (F := F)).lev ∗ emp
        ∗ tileRes m d q (blkOf L) (m (aLoc d)) (m (bLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__combine_body L yV (Memref.isWhole_whole _) p0V (Memref.isWhole_whole _) p1V (Memref.isWhole_whole _)
            aV (Memref.isWhole_whole _) bV (Memref.isWhole_whole _) i0V (Memref.isWhole_whole _) i1V (Memref.isWhole_whole _)
            raV (Memref.isWhole_whole _) rbV (Memref.isWhole_whole _)
            cc1_scratch4 cc1_scratch5 cc1_scratch6 cc1_scratch7 cc1_scratch8 cc1_scratch9 cc1_scratch10 cc1_scoped0 cc1_scoped1)
          fun _ => iprop(tileRes m d q (blkOf L) (taken (m (yLoc d)) (m (p0Loc d))) (taken (m (yLoc d)) (m (p1Loc d)))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__combine_body_eq_skeleton]; unfold cc1__combine_body_skel tileRes
  rw [k1_part1_eq_skeleton, k1_part2_eq_skeleton]
  unfold k1_part1_skel k1_part2_skel
  rw [(K (F := F)).scopedBufs_V hF d (cV L) (jV L), SparseCore.Cfg.scopedSems0_V (Val := Elt F) d (cV L) (jV L), ownSems0_tile, ownBufs_tile]
  iintro ⟨#Hlv, -, ⟨Hy, Hp0, Hp1, Ha, Hb⟩, ⟨⟨%f0, Hi0⟩, ⟨%f1, Hi1⟩, ⟨%fa, Hra⟩, ⟨%fb, Hrb⟩, Hbufs⟩, ⟨Hc4, Hc5, Hc6, Hc7, Hc8, Hc9, Hc10, HcA, HcB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hp0 := (Entails.of_eq (lend ((p0V).slice (lrect L) (fun _ => rfl)).view.set q (m (p0Loc d)))) $$ Hp0
  icases Hp0 with ⟨Hp0, Hp0r⟩
  ihave Hp1 := (Entails.of_eq (lend ((p1V).slice (lrect L) (fun _ => rfl)).view.set q (m (p1Loc d)))) $$ Hp1
  icases Hp1 with ⟨Hp1, Hp1r⟩
  ihave Hp0' := (Entails.of_eq (show (p0Loc d ↦[((p0V).slice (lrect L) (fun _ => rfl)).view.set]{q} m (p0Loc d) : sProp 𝕄)
    = (((p0V).slice (lrect L) (fun _ => rfl)).view.loc (V d (cV L) (jV L)) ↦[((p0V).slice (lrect L) (fun _ => rfl)).view.set]{q} m (p0Loc d)) from rfl)) $$ Hp0
  ihave Hp1' := (Entails.of_eq (show (p1Loc d ↦[((p1V).slice (lrect L) (fun _ => rfl)).view.set]{q} m (p1Loc d) : sProp 𝕄)
    = (((p1V).slice (lrect L) (fun _ => rfl)).view.loc (V d (cV L) (jV L)) ↦[((p1V).slice (lrect L) (fun _ => rfl)).view.set]{q} m (p1Loc d)) from rfl)) $$ Hp1
  ihave Hi0' := (Entails.of_eq (show ((V d (cV L) (jV L)).loc cc1_scratch0 ↦{fullShare} f0 : sProp 𝕄) = ((i0V).view.loc (V d (cV L) (jV L)) ↦{fullShare} f0) from rfl)) $$ Hi0
  ihave Hi1' := (Entails.of_eq (show ((V d (cV L) (jV L)).loc cc1_scratch1 ↦{fullShare} f1 : sProp 𝕄) = ((i1V).view.loc (V d (cV L) (jV L)) ↦{fullShare} f1) from rfl)) $$ Hi1
  ihave Hc10 := (show semVal (cellOf d L cc1_scratch10.sem) 0 ⊢ outCell (F := F) d L from .rfl) $$ Hc10
  sl_exec
  ihave Hi0 := (Entails.of_eq (landed_list0 m d L f0 (tile_body.sl.dma0 m d L) rfl)) $$ Hi0'
  ihave Hi1 := (Entails.of_eq (landed_list1 m d L f1 (tile_body.sl.dma0_1 m d L) rfl)) $$ Hi1'
  ihave Hy := (Entails.of_eq (halves (ℓ := (yV).view.loc (V d (cV L) (jV L))) Finset.univ (m (yLoc d)) q)) $$ Hy
  icases Hy with ⟨Hya, Hyb⟩
  ihave Hra := (Entails.of_eq (ra_cols (F := F) d L fa)) $$ Hra
  icases Hra with ⟨Hra0, Hra1, Hra2⟩
  ihave Hla := (Entails.of_eq (thirds (ℓ := (i0V).view.loc (V d (cV L) (jV L))) Finset.univ (listBlk (m (p0Loc d)) (blkOf L)) fullShare)) $$ Hi0
  icases Hla with ⟨Hla0, Hla1, Hla2⟩
  ihave Hla0 := (Entails.of_eq (list_set0 (F := F) d L _ _).symm) $$ Hla0
  ihave Hla1 := (Entails.of_eq (list_set0 (F := F) d L _ _).symm) $$ Hla1
  ihave Hla2 := (Entails.of_eq (list_set0 (F := F) d L _ _).symm) $$ Hla2
  ihave Hya := (Entails.of_eq (thirds (ℓ := (yV).view.loc (V d (cV L) (jV L))) Finset.univ (m (yLoc d)) (half q 0))) $$ Hya
  icases Hya with ⟨Hya0, Hya1, Hya2⟩
  ihave Hya0 := (Entails.of_eq (lend (yC0).view.set _ _)) $$ Hya0
  icases Hya0 with ⟨Hya0, Hyra0⟩
  ihave Hya1 := (Entails.of_eq (lend (yC1).view.set _ _)) $$ Hya1
  icases Hya1 with ⟨Hya1, Hyra1⟩
  ihave Hya2 := (Entails.of_eq (lend (yC2).view.set _ _)) $$ Hya2
  icases Hya2 with ⟨Hya2, Hyra2⟩
  ihave Hrb := (Entails.of_eq (rb_cols (F := F) d L fb)) $$ Hrb
  icases Hrb with ⟨Hrb0, Hrb1, Hrb2⟩
  ihave Hlb := (Entails.of_eq (thirds (ℓ := (i1V).view.loc (V d (cV L) (jV L))) Finset.univ (listBlk (m (p1Loc d)) (blkOf L)) fullShare)) $$ Hi1
  icases Hlb with ⟨Hlb0, Hlb1, Hlb2⟩
  ihave Hlb0 := (Entails.of_eq (list_set1 (F := F) d L _ _).symm) $$ Hlb0
  ihave Hlb1 := (Entails.of_eq (list_set1 (F := F) d L _ _).symm) $$ Hlb1
  ihave Hlb2 := (Entails.of_eq (list_set1 (F := F) d L _ _).symm) $$ Hlb2
  ihave Hyb := (Entails.of_eq (thirds (ℓ := (yV).view.loc (V d (cV L) (jV L))) Finset.univ (m (yLoc d)) (half q 1))) $$ Hyb
  icases Hyb with ⟨Hyb0, Hyb1, Hyb2⟩
  ihave Hyb0 := (Entails.of_eq (lend (yC0).view.set _ _)) $$ Hyb0
  icases Hyb0 with ⟨Hyb0, Hyrb0⟩
  ihave Hyb1 := (Entails.of_eq (lend (yC1).view.set _ _)) $$ Hyb1
  icases Hyb1 with ⟨Hyb1, Hyrb1⟩
  ihave Hyb2 := (Entails.of_eq (lend (yC2).view.set _ _)) $$ Hyb2
  icases Hyb2 with ⟨Hyb2, Hyrb2⟩
  iapply (SparseCore.wp_indirectGatherLocal countersEmb 𝒱₀ (V d (cV L) (jV L)) none (hg := gathers_S10240x128_S128x128) (default : HIx 1)
      (raC0).view.dmaCredit (credit_rows_a _ _ _) (by decide) (list_inb0 m d L hpre)) $$ [Hya0 Hra0 Hla0 Hc4]
  · isplitl [Hya0]; · iexact Hya0
    isplitl [Hra0]; · iexact Hra0
    isplitl [Hla0]; · iexact Hla0
    iexact Hc4
  iintro Hfa0
  sl_exec
  iapply (SparseCore.wp_indirectGatherLocal countersEmb 𝒱₀ (V d (cV L) (jV L)) none (hg := gathers_S10240x128_S128x128) (default : HIx 1)
      (raC1).view.dmaCredit (credit_rows_a _ _ _) (by decide) (list_inb0 m d L hpre)) $$ [Hya1 Hra1 Hla1 Hc5]
  · isplitl [Hya1]; · iexact Hya1
    isplitl [Hra1]; · iexact Hra1
    isplitl [Hla1]; · iexact Hla1
    iexact Hc5
  iintro Hfa1
  sl_exec
  iapply (SparseCore.wp_indirectGatherLocal countersEmb 𝒱₀ (V d (cV L) (jV L)) none (hg := gathers_S10240x128_S128x128) (default : HIx 1)
      (raC2).view.dmaCredit (credit_rows_a _ _ _) (by decide) (list_inb0 m d L hpre)) $$ [Hya2 Hra2 Hla2 Hc6]
  · isplitl [Hya2]; · iexact Hya2
    isplitl [Hra2]; · iexact Hra2
    isplitl [Hla2]; · iexact Hla2
    iexact Hc6
  iintro Hfa2
  sl_exec
  iapply (SparseCore.wp_indirectGatherLocal countersEmb 𝒱₀ (V d (cV L) (jV L)) none (hg := gathers_S10240x128_S128x128) (default : HIx 1)
      (rbC0).view.dmaCredit (credit_rows_b _ _ _) (by decide) (list_inb1 m d L hpre)) $$ [Hyb0 Hrb0 Hlb0 Hc7]
  · isplitl [Hyb0]; · iexact Hyb0
    isplitl [Hrb0]; · iexact Hrb0
    isplitl [Hlb0]; · iexact Hlb0
    iexact Hc7
  iintro Hfb0
  sl_exec
  iapply (SparseCore.wp_indirectGatherLocal countersEmb 𝒱₀ (V d (cV L) (jV L)) none (hg := gathers_S10240x128_S128x128) (default : HIx 1)
      (rbC1).view.dmaCredit (credit_rows_b _ _ _) (by decide) (list_inb1 m d L hpre)) $$ [Hyb1 Hrb1 Hlb1 Hc8]
  · isplitl [Hyb1]; · iexact Hyb1
    isplitl [Hrb1]; · iexact Hrb1
    isplitl [Hlb1]; · iexact Hlb1
    iexact Hc8
  iintro Hfb1
  sl_exec
  iapply (SparseCore.wp_indirectGatherLocal countersEmb 𝒱₀ (V d (cV L) (jV L)) none (hg := gathers_S10240x128_S128x128) (default : HIx 1)
      (rbC2).view.dmaCredit (credit_rows_b _ _ _) (by decide) (list_inb1 m d L hpre)) $$ [Hyb2 Hrb2 Hlb2 Hc9]
  · isplitl [Hyb2]; · iexact Hyb2
    isplitl [Hrb2]; · iexact Hrb2
    isplitl [Hlb2]; · iexact Hlb2
    iexact Hc9
  iintro Hfb2
  sl_exec
  ihave Ha := (Entails.of_eq (pts_aOut (F := F) d L _).symm) $$ Ha
  ihave Hb := (Entails.of_eq (pts_bOut (F := F) d L _).symm) $$ Hb
  iapply (Transfers.wp_waitLocalO countersEmb 𝒱₀ (V d (cV L) (jV L)) none (default : HIx 1) (rfl : (raC0).view.dmaCredit = _)) $$ [Hfa0 HO]
  · isplitl [Hfa0]; · iexact Hfa0
    isplitl [HO]; · iexact HO
    iapply (Transfers.MayWaits.elim (SemLoc.dma cc1_scratch4.sem)) $$ Hmw
  iintro ⟨⟨Hra0, Hya0, Hla0⟩, Hc4, HO⟩
  ihave Hra0 := (Entails.of_eq (col_a m d L hpre 0 inb_S128x384_S128x128_0_0 inb_S10240x384_S10240x128_0_0 fa)) $$ Hra0
  ihave Hya0 := (Entails.of_eq (lend (yC0).view.set (third (half q 0) 0) (m (yLoc d))).symm) $$ [Hya0 Hyra0]
  · isplitl [Hya0]; · iexact Hya0
    iexact Hyra0
  sl_exec
  iapply (Transfers.wp_waitLocalO countersEmb 𝒱₀ (V d (cV L) (jV L)) none (default : HIx 1) (rfl : (raC1).view.dmaCredit = _)) $$ [Hfa1 HO]
  · isplitl [Hfa1]; · iexact Hfa1
    isplitl [HO]; · iexact HO
    iapply (Transfers.MayWaits.elim (SemLoc.dma cc1_scratch5.sem)) $$ Hmw
  iintro ⟨⟨Hra1, Hya1, Hla1⟩, Hc5, HO⟩
  ihave Hra1 := (Entails.of_eq (col_a m d L hpre 128 inb_S128x384_S128x128_0_128 inb_S10240x384_S10240x128_0_128 fa)) $$ Hra1
  ihave Hya1 := (Entails.of_eq (lend (yC1).view.set (third (half q 0) 1) (m (yLoc d))).symm) $$ [Hya1 Hyra1]
  · isplitl [Hya1]; · iexact Hya1
    iexact Hyra1
  sl_exec
  iapply (Transfers.wp_waitLocalO countersEmb 𝒱₀ (V d (cV L) (jV L)) none (default : HIx 1) (rfl : (raC2).view.dmaCredit = _)) $$ [Hfa2 HO]
  · isplitl [Hfa2]; · iexact Hfa2
    isplitl [HO]; · iexact HO
    iapply (Transfers.MayWaits.elim (SemLoc.dma cc1_scratch6.sem)) $$ Hmw
  iintro ⟨⟨Hra2, Hya2, Hla2⟩, Hc6, HO⟩
  ihave Hra2 := (Entails.of_eq (col_a m d L hpre 256 inb_S128x384_S128x128_0_256 inb_S10240x384_S10240x128_0_256 fa)) $$ Hra2
  ihave Hya2 := (Entails.of_eq (lend (yC2).view.set (third (half q 0) 2) (m (yLoc d))).symm) $$ [Hya2 Hyra2]
  · isplitl [Hya2]; · iexact Hya2
    iexact Hyra2
  ihave Hra := (Entails.of_eq (ra_cols (F := F) d L (takenBlk (m (yLoc d)) (m (p0Loc d)) (blkOf L))).symm) $$ [Hra0 Hra1 Hra2]
  · isplitl [Hra0]; · iexact Hra0
    isplitl [Hra1]; · iexact Hra1
    iexact Hra2
  imod (outBatch_start m d L) $$ Hc10 with HB
  sl_exec
  ihave Hra := (Entails.of_eq (show ((raV).view.loc (V d (cV L) (jV L)) ↦{fullShare} _ : sProp 𝕄) = ((raV).view.loc (V d (cV L) (jV L)) ↦[(raV).view.set]{fullShare} _)
    by rw [show (raV).view.set = Finset.univ from View.set_whole _])) $$ Hra
  unfold outBatch
  iapply (Transfers.wp_dmaBatch countersEmb 𝒱₀ (V d (cV L) (jV L)) none (via := ReadAs.same) (default : HIx 1) (outN L) rfl (Finset.Subset.refl _) (j := 0) (u := 0) (by decide) (Nat.zero_le _) (deliver_a m d L)) $$ [Hra Ha HB]
  · isplitl [Hra]; · iexact Hra
    isplitl [Ha]; · iexact Ha
    iexact HB
  iintro HB
  ihave HB := (show Transfers.Batch countersEmb (V d (cV L) (jV L)) (.dma cc1_scratch10.sem) (default : HIx 1) (outN L) (outD m d L) 1 0 ⊢ outBatch m d L 1 0 from .rfl) $$ HB
  sl_exec
  iapply (Transfers.wp_waitLocalO countersEmb 𝒱₀ (V d (cV L) (jV L)) none (default : HIx 1) (rfl : (rbC0).view.dmaCredit = _)) $$ [Hfb0 HO]
  · isplitl [Hfb0]; · iexact Hfb0
    isplitl [HO]; · iexact HO
    iapply (Transfers.MayWaits.elim (SemLoc.dma cc1_scratch7.sem)) $$ Hmw
  iintro ⟨⟨Hrb0, Hyb0, Hlb0⟩, Hc7, HO⟩
  ihave Hrb0 := (Entails.of_eq (col_b m d L hpre 0 inb_S128x384_S128x128_0_0 inb_S10240x384_S10240x128_0_0 fb)) $$ Hrb0
  ihave Hyb0 := (Entails.of_eq (lend (yC0).view.set (third (half q 1) 0) (m (yLoc d))).symm) $$ [Hyb0 Hyrb0]
  · isplitl [Hyb0]; · iexact Hyb0
    iexact Hyrb0
  sl_exec
  iapply (Transfers.wp_waitLocalO countersEmb 𝒱₀ (V d (cV L) (jV L)) none (default : HIx 1) (rfl : (rbC1).view.dmaCredit = _)) $$ [Hfb1 HO]
  · isplitl [Hfb1]; · iexact Hfb1
    isplitl [HO]; · iexact HO
    iapply (Transfers.MayWaits.elim (SemLoc.dma cc1_scratch8.sem)) $$ Hmw
  iintro ⟨⟨Hrb1, Hyb1, Hlb1⟩, Hc8, HO⟩
  ihave Hrb1 := (Entails.of_eq (col_b m d L hpre 128 inb_S128x384_S128x128_0_128 inb_S10240x384_S10240x128_0_128 fb)) $$ Hrb1
  ihave Hyb1 := (Entails.of_eq (lend (yC1).view.set (third (half q 1) 1) (m (yLoc d))).symm) $$ [Hyb1 Hyrb1]
  · isplitl [Hyb1]; · iexact Hyb1
    iexact Hyrb1
  sl_exec
  iapply (Transfers.wp_waitLocalO countersEmb 𝒱₀ (V d (cV L) (jV L)) none (default : HIx 1) (rfl : (rbC2).view.dmaCredit = _)) $$ [Hfb2 HO]
  · isplitl [Hfb2]; · iexact Hfb2
    isplitl [HO]; · iexact HO
    iapply (Transfers.MayWaits.elim (SemLoc.dma cc1_scratch9.sem)) $$ Hmw
  iintro ⟨⟨Hrb2, Hyb2, Hlb2⟩, Hc9, HO⟩
  ihave Hrb2 := (Entails.of_eq (col_b m d L hpre 256 inb_S128x384_S128x128_0_256 inb_S10240x384_S10240x128_0_256 fb)) $$ Hrb2
  ihave Hyb2 := (Entails.of_eq (lend (yC2).view.set (third (half q 1) 2) (m (yLoc d))).symm) $$ [Hyb2 Hyrb2]
  · isplitl [Hyb2]; · iexact Hyb2
    iexact Hyrb2
  ihave Hrb := (Entails.of_eq (rb_cols (F := F) d L (takenBlk (m (yLoc d)) (m (p1Loc d)) (blkOf L))).symm) $$ [Hrb0 Hrb1 Hrb2]
  · isplitl [Hrb0]; · iexact Hrb0
    isplitl [Hrb1]; · iexact Hrb1
    iexact Hrb2
  sl_exec
  ihave Hrb := (Entails.of_eq (show ((rbV).view.loc (V d (cV L) (jV L)) ↦{fullShare} _ : sProp 𝕄) = ((rbV).view.loc (V d (cV L) (jV L)) ↦[(rbV).view.set]{fullShare} _)
    by rw [show (rbV).view.set = Finset.univ from View.set_whole _])) $$ Hrb
  unfold outBatch
  iapply (Transfers.wp_dmaBatch countersEmb 𝒱₀ (V d (cV L) (jV L)) none (via := ReadAs.same) (default : HIx 1) (outN L) rfl (Finset.Subset.refl _) (j := 1) (u := 0) (by decide) (Nat.zero_le _) (deliver_b m d L)) $$ [Hrb Hb HB]
  · isplitl [Hrb]; · iexact Hrb
    isplitl [Hb]; · iexact Hb
    iexact HB
  iintro HB
  ihave HB := (show Transfers.Batch countersEmb (V d (cV L) (jV L)) (.dma cc1_scratch10.sem) (default : HIx 1) (outN L) (outD m d L) 2 0 ⊢ outBatch m d L 2 0 from .rfl) $$ HB
  sl_exec
  unfold outBatch
  iapply (Transfers.wp_waitBatchO countersEmb 𝒱₀ (V d (cV L) (jV L)) none (default : HIx 1) (N := outN L) rfl (D := outD m d L) (u := 0)
    (two_more (out_pos L))) $$ [HB HO]
  · isplitl [HB]; · iexact HB
    isplitl [HO]; · iexact HO
    iapply (Transfers.MayWaits.elim (SemLoc.dma cc1_scratch10.sem)) $$ Hmw
  iintro ⟨HB, HO⟩
  ihave HB := (show Transfers.Batch countersEmb (V d (cV L) (jV L)) (.dma cc1_scratch10.sem) (default : HIx 1) (outN L) (outD m d L) 2
      (0 + (outN L)) ⊢ outBatch m d L 2 (0 + (outN L)) from .rfl) $$ HB
  sl_exec
  unfold outBatch
  iapply (Transfers.wp_waitBatchLastO countersEmb 𝒱₀ (V d (cV L) (jV L)) none (default : HIx 1) (N := outN L) (rfl : ((bV).slice (rrect L) (fun _ => rfl)).view.dmaCredit = outN L) (out_pos L) (D := outD m d L)
    (two_done _)) $$ [HB HO]
  · isplitl [HB]; · iexact HB
    isplitl [HO]; · iexact HO
    iapply (Transfers.MayWaits.elim (SemLoc.dma cc1_scratch10.sem)) $$ Hmw
  iintro ⟨HD, Hc10, HO⟩
  ihave HD := (Entails.of_eq (outD_both m d L)) $$ HD
  simp only [outD]
  icases HD with ⟨⟨Ha, Hra⟩, Hb, Hrb⟩
  ihave Hla0 := (Entails.of_eq (list_set0 (F := F) d L _ _)) $$ Hla0
  ihave Hla1 := (Entails.of_eq (list_set0 (F := F) d L _ _)) $$ Hla1
  ihave Hla2 := (Entails.of_eq (list_set0 (F := F) d L _ _)) $$ Hla2
  ihave Hla := (Entails.of_eq (thirds (ℓ := (i0V).view.loc (V d (cV L) (jV L))) Finset.univ (listBlk (m (p0Loc d)) (blkOf L)) fullShare).symm) $$ [Hla0 Hla1 Hla2]
  · isplitl [Hla0]; · iexact Hla0
    isplitl [Hla1]; · iexact Hla1
    iexact Hla2
  ihave Hya := (Entails.of_eq (thirds (ℓ := yLoc d) Finset.univ (m (yLoc d)) (half q 0)).symm) $$ [Hya0 Hya1 Hya2]
  · isplitl [Hya0]; · iexact Hya0
    isplitl [Hya1]; · iexact Hya1
    iexact Hya2
  ihave Hlb0 := (Entails.of_eq (list_set1 (F := F) d L _ _)) $$ Hlb0
  ihave Hlb1 := (Entails.of_eq (list_set1 (F := F) d L _ _)) $$ Hlb1
  ihave Hlb2 := (Entails.of_eq (list_set1 (F := F) d L _ _)) $$ Hlb2
  ihave Hlb := (Entails.of_eq (thirds (ℓ := (i1V).view.loc (V d (cV L) (jV L))) Finset.univ (listBlk (m (p1Loc d)) (blkOf L)) fullShare).symm) $$ [Hlb0 Hlb1 Hlb2]
  · isplitl [Hlb0]; · iexact Hlb0
    isplitl [Hlb1]; · iexact Hlb1
    iexact Hlb2
  ihave Hyb := (Entails.of_eq (thirds (ℓ := yLoc d) Finset.univ (m (yLoc d)) (half q 1)).symm) $$ [Hyb0 Hyb1 Hyb2]
  · isplitl [Hyb0]; · iexact Hyb0
    isplitl [Hyb1]; · iexact Hyb1
    iexact Hyb2
  ihave Hy := (Entails.of_eq (halves (ℓ := yLoc d) Finset.univ (m (yLoc d)) q).symm) $$ [Hya Hyb]
  · isplitl [Hya]; · iexact Hya
    iexact Hyb
  sl_exec
  sl_step
  isplitl [Hy Hp0r Hp1r Ha Hb]
  · isplitl [Hy]; · iexact Hy
    isplitl [Hp0r]; · iexact Hp0r
    isplitl [Hp1r]; · iexact Hp1r
    isplitl [Ha]; · iexact Ha
    iexact Hb
  isplitl [Hla Hlb Hra Hrb Hbufs]
  · isplitl [Hla]; · iexists _; iexact Hla
    isplitl [Hlb]; · iexists _; iexact Hlb
    isplitl [Hra]; · iexists _; iexact Hra
    isplitl [Hrb]; · iexists _; iexact Hrb
    iexact Hbufs
  isplitl [Hc4 Hc5 Hc6 Hc7 Hc8 Hc9 Hc10 HcA HcB Hsems]
  · isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [HcA]; · iexact HcA
    isplitl [HcB]; · iexact HcB
    iexact Hsems
  iexists _; isplitr
  swap; · iexact HO
  ipureintro; intro p hp
  repeat (rcases Finset.mem_insert.mp hp with hp | hp; · exact .inr (hp ▸ rfl))
  exact .inl hp

end Body

end Cert.Proof

end
-- ==== Proof.Call.lean ====
/-
  What the two-gather call carries between the TensorCore, the SparseCores' sequencers and their tiles, and its
  obligations: each tile takes its piece (a share of the rows and lists, its blocks of the results) and returns it with
  the blocks at the rows taken; a sequencer takes and returns its sixteen tiles' pieces. The table of rows is at contents
  not known when the call is set up, only that the rows the lists name are those of a known table (`Agrees`); so the
  TensorCore keeps half of the table and lists through the call, and knows by it that what comes back is what it gave.
-/
module

public import proofs.«01_k».proof.Proof.Tile

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "yV" => (Memref.whole Cert.KernelIdeal.main_v3_scv : Memref Cert.KernelIdeal.sig Kind.scVector Space.hbm Cert.KernelIdeal.S10240x384 EltTy.f32)
local notation "p0V" => (Memref.whole Cert.KernelIdeal.main_arg10_scv : Memref Cert.KernelIdeal.sig Kind.scVector Space.hbm Cert.KernelIdeal.S4096 EltTy.i32)
local notation "p1V" => (Memref.whole Cert.KernelIdeal.main_arg11_scv : Memref Cert.KernelIdeal.sig Kind.scVector Space.hbm Cert.KernelIdeal.S4096 EltTy.i32)
local notation "aV" => (Memref.whole Cert.KernelIdeal.main_v4_0_scv : Memref Cert.KernelIdeal.sig Kind.scVector Space.hbm Cert.KernelIdeal.S4096x384 EltTy.f32)
local notation "bV" => (Memref.whole Cert.KernelIdeal.main_v4_1_scv : Memref Cert.KernelIdeal.sig Kind.scVector Space.hbm Cert.KernelIdeal.S4096x384 EltTy.f32)
local notation "i0V" => (Memref.whole Cert.KernelIdeal.cc1_scratch0 : Memref Cert.KernelIdeal.sig Kind.scVector Space.vmem Cert.KernelIdeal.S128 EltTy.i32)
local notation "i1V" => (Memref.whole Cert.KernelIdeal.cc1_scratch1 : Memref Cert.KernelIdeal.sig Kind.scVector Space.vmem Cert.KernelIdeal.S128 EltTy.i32)
local notation "raV" => (Memref.whole Cert.KernelIdeal.cc1_scratch2 : Memref Cert.KernelIdeal.sig Kind.scVector Space.vmem Cert.KernelIdeal.S128x384 EltTy.f32)
local notation "rbV" => (Memref.whole Cert.KernelIdeal.cc1_scratch3 : Memref Cert.KernelIdeal.sig Kind.scVector Space.vmem Cert.KernelIdeal.S128x384 EltTy.f32)

variable (m : (ℓ : Loc nD τ sig) → Buf (Elt F) ℓ)

variable (rs : (d : Dev nD) → Buf (Elt F) (yLoc d))

/-- The block and the share of tile `s` of SparseCore `c`: the half of an array that is lent, cut up. -/
def wOf (c : Fin 2) (s : Fin 16) : Fin 32 := ⟨2 * s.val + c.val, by omega⟩
abbrev lentShare : PosShare TreeShare := half fullShare 0
abbrev keptShare : PosShare TreeShare := half fullShare 1
abbrev shareOf (c : Fin 2) (s : Fin 16) : PosShare TreeShare := pieceOf (pieceOf lentShare 2 (by decide) c) 16 (by decide) s

/-- The pieces numbered by SparseCore and tile. -/
def tileEquiv : Fin 2 × Fin 16 ≃ Fin 32 where
  toFun p := wOf p.1 p.2
  invFun w := (⟨w.val % 2, Nat.mod_lt _ (by decide)⟩, ⟨w.val / 2, by omega⟩)
  left_inv p := by
    have h1 := p.1.isLt; have h2 := p.2.isLt
    refine Prod.ext (Fin.ext ?_) (Fin.ext ?_)
    · show (2 * p.2.val + p.1.val) % 2 = p.1.val; omega
    · show (2 * p.2.val + p.1.val) / 2 = p.2.val; omega
  right_inv w := by
    apply Fin.ext
    show 2 * (w.val / 2) + w.val % 2 = w.val; omega

/-- The rows the lists name are the known table's. -/
def Agrees (d : Dev nD) (fy : Buf (Elt F) (yLoc d)) : Prop :=
  taken fy (m (p0Loc d)) = taken (rs d) (m (p0Loc d)) ∧ taken fy (m (p1Loc d)) = taken (rs d) (m (p1Loc d))

/-- A tile's piece with the table at `fy`. -/
def piece (d : Dev nD) (fy : Buf (Elt F) (yLoc d)) (q : PosShare TreeShare) (w : Fin 32) (fa : Buf (Elt F) (aLoc d)) (fb : Buf (Elt F) (bLoc d)) : sProp 𝕄 :=
  iprop((yLoc d ↦{q} fy) ∗ (p0Loc d ↦{q} m (p0Loc d)) ∗ (p1Loc d ↦{q} m (p1Loc d))
    ∗ (aLoc d ↦[(orow w).set]{fullShare} fa) ∗ (bLoc d ↦[(orow w).set]{fullShare} fb))

instance piece_storable (d : Dev nD) (fy : Buf (Elt F) (yLoc d)) (q : PosShare TreeShare) (w : Fin 32) (fa : Buf (Elt F) (aLoc d)) (fb : Buf (Elt F) (bLoc d)) :
    BI.Storable (upEmb : UEmb _ 𝕄) (piece m d fy q w fa fb) := by unfold piece; infer_instance

/-- A tile's piece before and after. -/
def pieceIn (d : Dev nD) (q : PosShare TreeShare) (w : Fin 32) : sProp 𝕄 :=
  iprop(∃ fy, ⌜Agrees m rs d fy⌝ ∗ piece m d fy q w (m (aLoc d)) (m (bLoc d)))
def pieceOut (d : Dev nD) (q : PosShare TreeShare) (w : Fin 32) : sProp 𝕄 :=
  iprop(∃ fy, ⌜Agrees m rs d fy⌝ ∗ piece m d fy q w (taken (rs d) (m (p0Loc d))) (taken (rs d) (m (p1Loc d))))

instance pieceIn_storable (d : Dev nD) (q : PosShare TreeShare) (w : Fin 32) : BI.Storable (upEmb : UEmb _ 𝕄) (pieceIn m rs d q w) := by
  unfold pieceIn; infer_instance
instance pieceOut_storable (d : Dev nD) (q : PosShare TreeShare) (w : Fin 32) : BI.Storable (upEmb : UEmb _ 𝕄) (pieceOut m rs d q w) := by
  unfold pieceOut; infer_instance

abbrev tileIn (d : Dev nD) (c : Fin 2) (s : Fin 16) : sProp 𝕄 := pieceIn m rs d (shareOf c s) (wOf c s)
abbrev tileOut (d : Dev nD) (c : Fin 2) (s : Fin 16) : sProp 𝕄 := pieceOut m rs d (shareOf c s) (wOf c s)

def P : (K (F := F)).Pay (nD := nD) (Val := Elt F) (Name := ℕ) (U := UU) where
  st := fun q d c => match q with | 0 => bigSep Finset.univ fun s : Fin 16 => tileIn m rs d (Fin.cast nCore_zero c) s
  dn := fun q d c => match q with | 0 => bigSep Finset.univ fun s : Fin 16 => tileOut m rs d (Fin.cast nCore_zero c) s
  go := fun q d c i => match q with | 0 => tileIn m rs d (Fin.cast nCore_zero c) (Fin.cast nSub_zero i)
  td := fun q d c i => match q with | 0 => tileOut m rs d (Fin.cast nCore_zero c) (Fin.cast nSub_zero i)
  x := fun _ _ => iprop(emp)

instance P_storable : (P (F := F) m rs).IsStorable where
  st q d c := match q with
    | 0 => (inferInstance : BI.Storable (upEmb : UEmb _ 𝕄) (bigSep Finset.univ fun s : Fin 16 => tileIn m rs d (Fin.cast nCore_zero c) s))
  dn q d c := match q with
    | 0 => (inferInstance : BI.Storable (upEmb : UEmb _ 𝕄) (bigSep Finset.univ fun s : Fin 16 => tileOut m rs d (Fin.cast nCore_zero c) s))
  go q d c i := match q with
    | 0 => (inferInstance : BI.Storable (upEmb : UEmb _ 𝕄) (tileIn m rs d (Fin.cast nCore_zero c) (Fin.cast nSub_zero i)))
  td q d c i := match q with
    | 0 => (inferInstance : BI.Storable (upEmb : UEmb _ 𝕄) (tileOut m rs d (Fin.cast nCore_zero c) (Fin.cast nSub_zero i)))

/-! ## The obligations -/

/-- The launch memory with the table at `fy`. -/
def withRows (d : Dev nD) (fy : Buf (Elt F) (yLoc d)) : (ℓ : Loc nD τ sig) → Buf (Elt F) ℓ := Function.update m (yLoc d) fy

theorem withRows_y (d : Dev nD) (fy : Buf (Elt F) (yLoc d)) : withRows m d fy (yLoc d) = fy := Function.update_self ..
theorem withRows_ne (d : Dev nD) (fy : Buf (Elt F) (yLoc d)) {r : Ref sig .tc} (h : r ≠ main_v3) :
    withRows m d fy ((SparseCore.T d).loc r) = m ((SparseCore.T d).loc r) :=
  Function.update_of_ne (fun e => h (Proc.devRef_injective _ (Prod.mk.inj e).2)) ..
theorem withRows_ok (hpre : RowsOK m) (d : Dev nD) (fy : Buf (Elt F) (yLoc d)) : RowsOK (withRows m d fy) := fun d' j => by
  have h0 : withRows m d fy (p0Loc d') = m (p0Loc d') :=
    Function.update_of_ne (fun e => absurd (Proc.devRef_injective _ (Prod.mk.inj e).2) (show main_arg10 ≠ main_v3 by decide)) ..
  have h1 : withRows m d fy (p1Loc d') = m (p1Loc d') :=
    Function.update_of_ne (fun e => absurd (Proc.devRef_injective _ (Prod.mk.inj e).2) (show main_arg11 ≠ main_v3 by decide)) ..
  rw [h0, h1]; exact hpre d' j

theorem tileRes_withRows (d : Dev nD) (fy : Buf (Elt F) (yLoc d)) (q : PosShare TreeShare) (w : Fin 32) (fa : Buf (Elt F) (aLoc d)) (fb : Buf (Elt F) (bLoc d)) :
    (tileRes (withRows m d fy) d q w fa fb : sProp 𝕄) = piece m d fy q w fa fb := by
  unfold tileRes piece
  rw [withRows_y, withRows_ne m d fy (r := main_arg10) (by decide), withRows_ne m d fy (r := main_arg11) (by decide)]

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__combine_body (coordsV c s)
          yV (Memref.isWhole_whole _) p0V (Memref.isWhole_whole _) p1V (Memref.isWhole_whole _)
            aV (Memref.isWhole_whole _) bV (Memref.isWhole_whole _) i0V (Memref.isWhole_whole _) i1V (Memref.isWhole_whole _)
            raV (Memref.isWhole_whole _) rbV (Memref.isWhole_whole _)
            cc1_scratch4 cc1_scratch5 cc1_scratch6 cc1_scratch7 cc1_scratch8 cc1_scratch9 cc1_scratch10 cc1_scoped0 cc1_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tile_run (d : Dev nD) (L : grid1.Coords) (hF : (K (F := F)).Facts) (hpre : RowsOK m) (q : PosShare TreeShare) (O : CellTallies nD τ sig (HIx 1)) (W : Waits sig (HIx 1)) (hO : ∀ g, O g none = 0) :
    iprop(levAts (K (F := F)).L (K (F := F)).lev ∗ emp
        ∗ pieceIn m rs d q (blkOf L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__combine_body L yV (Memref.isWhole_whole _) p0V (Memref.isWhole_whole _) p1V (Memref.isWhole_whole _)
            aV (Memref.isWhole_whole _) bV (Memref.isWhole_whole _) i0V (Memref.isWhole_whole _) i1V (Memref.isWhole_whole _)
            raV (Memref.isWhole_whole _) rbV (Memref.isWhole_whole _)
            cc1_scratch4 cc1_scratch5 cc1_scratch6 cc1_scratch7 cc1_scratch8 cc1_scratch9 cc1_scratch10 cc1_scoped0 cc1_scoped1)
          fun _ => iprop(pieceOut m rs d q (blkOf L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  unfold pieceIn pieceOut
  iintro ⟨Hl, He, ⟨%fy, %hfy, Ht⟩, Hb, Hs, HO⟩
  have h := tile_body (withRows m d fy) d L hF (withRows_ok m hpre d fy) q O W hO
  rw [tileRes_withRows, tileRes_withRows, withRows_y, withRows_ne m d fy (r := main_arg10) (by decide), withRows_ne m d fy (r := main_arg11) (by decide),
    withRows_ne m d fy (r := main_v4_0) (by decide), withRows_ne m d fy (r := main_v4_1) (by decide), hfy.1, hfy.2] at h
  iapply (h.trans (wp_mono frame _ _ fun _ => sep_mono (by
    iintro H; iexists fy; isplitr; · ipureintro; exact hfy
    iexact H) .rfl))
  isplitl [Hl]; · iexact Hl
  isplitl [He]; · iexact He
  isplitl [Ht]; · iexact Ht
  isplitl [Hb]; · iexact Hb
  isplitl [Hs] <;> iassumption

set_option maxRecDepth 16384 in
theorem tileObl (hF : (K (F := F)).Facts) (hpre : RowsOK m) : (K (F := F)).TileObl (D (F := F)) 𝒱 (P m rs) v₀ 0 := by
  intro d c i O W hO _ _
  simp only [show (P m rs).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_run m rs d (coordsV ⟨_, hci.1⟩ ⟨_, hci.2⟩) hF hpre (shareOf (Fin.cast nCore_zero c) (Fin.cast nSub_zero i)) O W hO).trans
    (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P m rs) 0 := by
  intro d c
  show (bigSep Finset.univ fun s : Fin 16 => tileIn m rs d (Fin.cast nCore_zero c) s) ⊢ |={Set.univ}=> iprop(
      (bigSep Finset.univ fun i : Fin ((K (F := F)).nSub 0) => tileIn m rs d (Fin.cast nCore_zero c) (Fin.cast nSub_zero i))
      ∗ ((bigSep Finset.univ fun i : Fin ((K (F := F)).nSub 0) => tileOut m rs d (Fin.cast nCore_zero c) (Fin.cast nSub_zero i))
          -∗ bigSep Finset.univ fun s : Fin 16 => tileOut m rs d (Fin.cast nCore_zero c) s))
  rw [bigSep_tasks (F := F) (fun i => tileIn m rs d (Fin.cast nCore_zero c) i), bigSep_tasks (F := F) (fun i => tileOut m rs d (Fin.cast nCore_zero c) i)]
  iintro H; imodintro
  isplitl [H]; · iexact H
  iintro H; iexact H

/-! ## What is lent whole is the pieces of all tiles -/

theorem shares_whole {ℓ : Loc nD τ sig} (f : Buf (Elt F) ℓ) :
    (ℓ ↦{lentShare} f : sProp 𝕄) = bigSep Finset.univ fun c : Fin 2 => bigSep Finset.univ fun s : Fin 16 => ℓ ↦{shareOf c s} f := by
  rw [pointsTo_piecesOf Finset.univ f (o := 2) (by decide) lentShare]
  exact bigSep_congr fun c _ => pointsTo_piecesOf Finset.univ f (o := 16) (by decide) _

theorem blocks_whole {ℓ : Loc nD τ sig} (R : Fin 32 → Finset (Idx ℓ)) (hd : ∀ a ∈ (Finset.univ : Finset (Fin 32)), ∀ b ∈ (Finset.univ : Finset (Fin 32)), a ≠ b → Disjoint (R a) (R b))
    (hc : Finset.univ.biUnion R = Finset.univ) (f : Buf (Elt F) ℓ) :
    (ℓ ↦{fullShare} f : sProp 𝕄) = bigSep Finset.univ fun c : Fin 2 => bigSep Finset.univ fun s : Fin 16 => ℓ ↦[R (wOf c s)]{fullShare} f := by
  rw [← bigSep_univ_prod (fun p : Fin 2 × Fin 16 => (ℓ ↦[R (wOf p.1 p.2)]{fullShare} f : sProp 𝕄))]
  change _ = bigSep Finset.univ fun p : Fin 2 × Fin 16 => (ℓ ↦[R (tileEquiv p)]{fullShare} f : sProp 𝕄)
  rw [← bigSep_univ_equiv tileEquiv (fun w => (ℓ ↦[R w]{fullShare} f : sProp 𝕄)), ← pointsTo_biUnion _ R hd, hc]

/-- The five arrays; what of them is lent to the tiles, and what is kept. -/
def five (d : Dev nD) (fy : Buf (Elt F) (yLoc d)) (fa : Buf (Elt F) (aLoc d)) (fb : Buf (Elt F) (bLoc d)) : sProp 𝕄 :=
  iprop((yLoc d ↦{fullShare} fy) ∗ (p0Loc d ↦{fullShare} m (p0Loc d)) ∗ (p1Loc d ↦{fullShare} m (p1Loc d))
    ∗ (aLoc d ↦{fullShare} fa) ∗ (bLoc d ↦{fullShare} fb))
def lent (d : Dev nD) (fy : Buf (Elt F) (yLoc d)) (fa : Buf (Elt F) (aLoc d)) (fb : Buf (Elt F) (bLoc d)) : sProp 𝕄 :=
  iprop((yLoc d ↦{lentShare} fy) ∗ (p0Loc d ↦{lentShare} m (p0Loc d)) ∗ (p1Loc d ↦{lentShare} m (p1Loc d))
    ∗ (aLoc d ↦{fullShare} fa) ∗ (bLoc d ↦{fullShare} fb))
def kept (d : Dev nD) (fy : Buf (Elt F) (yLoc d)) : sProp 𝕄 :=
  iprop((yLoc d ↦{keptShare} fy) ∗ (p0Loc d ↦{keptShare} m (p0Loc d)) ∗ (p1Loc d ↦{keptShare} m (p1Loc d)))

theorem five_lend (d : Dev nD) (fy : Buf (Elt F) (yLoc d)) (fa : Buf (Elt F) (aLoc d)) (fb : Buf (Elt F) (bLoc d)) :
    (five m d fy fa fb : sProp 𝕄) ⊢ iprop(lent m d fy fa fb ∗ kept m d fy) := by
  unfold five lent kept
  rw [halves (ℓ := yLoc d) Finset.univ fy fullShare, halves (ℓ := p0Loc d) Finset.univ (m (p0Loc d)) fullShare, halves (ℓ := p1Loc d) Finset.univ (m (p1Loc d)) fullShare]
  iintro ⟨⟨Hy, Hy'⟩, ⟨H0, H0'⟩, ⟨H1, H1'⟩, Ha, Hb⟩
  isplitl [Hy H0 H1 Ha Hb]
  · isplitl [Hy]; · iexact Hy
    isplitl [H0]; · iexact H0
    isplitl [H1]; · iexact H1
    isplitl [Ha] <;> iassumption
  isplitl [Hy']; · iexact Hy'
  isplitl [H0'] <;> iassumption

theorem five_join (d : Dev nD) (fy : Buf (Elt F) (yLoc d)) (fa : Buf (Elt F) (aLoc d)) (fb : Buf (Elt F) (bLoc d)) :
    iprop(lent m d fy fa fb ∗ kept m d fy) ⊢ (five m d fy fa fb : sProp 𝕄) := by
  unfold five lent kept
  rw [halves (ℓ := yLoc d) Finset.univ fy fullShare, halves (ℓ := p0Loc d) Finset.univ (m (p0Loc d)) fullShare, halves (ℓ := p1Loc d) Finset.univ (m (p1Loc d)) fullShare]
  iintro ⟨⟨Hy, H0, H1, Ha, Hb⟩, Hy', H0', H1'⟩
  isplitl [Hy Hy']; · isplitl [Hy] <;> iassumption
  isplitl [H0 H0']; · isplitl [H0] <;> iassumption
  isplitl [H1 H1']; · isplitl [H1] <;> iassumption
  isplitl [Ha] <;> iassumption

theorem lent_eq (d : Dev nD) (fy : Buf (Elt F) (yLoc d)) (fa : Buf (Elt F) (aLoc d)) (fb : Buf (Elt F) (bLoc d)) :
    (lent m d fy fa fb : sProp 𝕄) = bigSep Finset.univ fun c : Fin 2 => bigSep Finset.univ fun s : Fin 16 => piece m d fy (shareOf c s) (wOf c s) fa fb := by
  unfold lent piece
  rw [shares_whole fy, shares_whole (m (p0Loc d)), shares_whole (m (p1Loc d)),
    blocks_whole (ℓ := aLoc d) (fun w => (orow w).set) (fun a _ b _ h => Rect.part_disjoint odiv h) (Rect.biUnion_part odiv) fa,
    blocks_whole (ℓ := bLoc d) (fun w => (orow w).set) (fun a _ b _ h => Rect.part_disjoint odiv h) (Rect.biUnion_part odiv) fb]
  simp only [bigSep_sep']

theorem st0_of (d : Dev nD) (fy : Buf (Elt F) (yLoc d)) (h : Agrees m rs d fy) :
    (lent m d fy (m (aLoc d)) (m (bLoc d)) : sProp 𝕄) ⊢ bigSep Finset.univ fun c : Fin ((K (F := F)).nCore 0) => (P m rs).st 0 d c := by
  refine BI.Entails.trans ?_ (Entails.of_eq (bigSep_cores (F := F) (fun c => bigSep Finset.univ fun s : Fin 16 => tileIn m rs d c s)).symm)
  rw [lent_eq]
  refine BI.bigSep_mono fun c _ => BI.bigSep_mono fun s _ => ?_
  show _ ⊢ pieceIn m rs d _ _
  unfold pieceIn
  iintro H; iexists fy; isplitr; · ipureintro; exact h
  iexact H

/-- Whoever holds the table at `f` beside pieces of it at contents unknown knows them to be `f`. -/
theorem pieces_known {I : Type} [DecidableEq I] {ℓ : Loc nD τ sig} (q₀ : PosShare TreeShare) (f : Buf (Elt F) ℓ) (q : I → PosShare TreeShare) (R : I → sProp 𝕄)
    (S : Finset I) :
    iprop((ℓ ↦{q₀} f) ∗ bigSep S fun i => iprop(∃ g, (ℓ ↦{q i} g) ∗ R i)) ⊢ (iprop((ℓ ↦{q₀} f) ∗ bigSep S fun i => iprop((ℓ ↦{q i} f) ∗ R i)) : sProp 𝕄) := by
  induction S using Finset.induction_on with
  | empty => simp only [BI.bigSep_empty]; exact .rfl
  | insert i S hi ih =>
    rw [SparseCore.bigSep_insert' hi, SparseCore.bigSep_insert' hi]
    iintro ⟨Hf, ⟨%g, Hg, HR⟩, HS⟩
    ihave H := (show iprop((ℓ ↦{q₀} f) ∗ (ℓ ↦{q i} g)) ⊢ (iprop((ℓ ↦{q₀} f) ∗ (ℓ ↦{q i} f)) : sProp 𝕄) from
      pure_elim _ pointsTo_agree fun hv => by
        rw [pointsTo_congr (f := g) (g := f) (fun j _ => ((hv j (Finset.mem_inter.mpr ⟨Finset.mem_univ _, Finset.mem_univ _⟩)).1).symm)]) $$ [Hf Hg]
    · isplitl [Hf] <;> iassumption
    icases H with ⟨Hf, Hg⟩
    ihave H := ih $$ [Hf HS]
    · isplitl [Hf] <;> iassumption
    icases H with ⟨Hf, HS⟩
    isplitl [Hf]; · iexact Hf
    isplitl [Hg HR]
    · isplitl [Hg] <;> iassumption
    iexact HS

theorem dn0_of (d : Dev nD) (fy : Buf (Elt F) (yLoc d)) :
    iprop(kept m d fy ∗ bigSep Finset.univ fun c : Fin ((K (F := F)).nCore 0) => (P m rs).dn 0 d c)
      ⊢ (five m d fy (taken (rs d) (m (p0Loc d))) (taken (rs d) (m (p1Loc d))) : sProp 𝕄) := by
  refine BI.Entails.trans ?_ (five_join m d fy _ _)
  rw [lent_eq]
  refine (sep_mono .rfl (Entails.of_eq (bigSep_cores (F := F) (fun c => bigSep Finset.univ fun s : Fin 16 => tileOut m rs d c s)))).trans ?_
  rw [← bigSep_univ_prod (fun p : Fin 2 × Fin 16 => (tileOut m rs d p.1 p.2 : sProp 𝕄)),
    ← bigSep_univ_prod (fun p : Fin 2 × Fin 16 => (piece m d fy (shareOf p.1 p.2) (wOf p.1 p.2) (taken (rs d) (m (p0Loc d))) (taken (rs d) (m (p1Loc d))) : sProp 𝕄))]
  have hk := pieces_known (F := F) (I := Fin 2 × Fin 16) (ℓ := yLoc d) keptShare fy (fun p => shareOf p.1 p.2)
    (fun p => iprop((p0Loc d ↦{shareOf p.1 p.2} m (p0Loc d)) ∗ (p1Loc d ↦{shareOf p.1 p.2} m (p1Loc d))
      ∗ (aLoc d ↦[(orow (wOf p.1 p.2)).set]{fullShare} (taken (rs d) (m (p0Loc d)) : Buf (Elt F) (aLoc d)))
      ∗ (bLoc d ↦[(orow (wOf p.1 p.2)).set]{fullShare} (taken (rs d) (m (p1Loc d)) : Buf (Elt F) (bLoc d))))) Finset.univ
  unfold kept
  iintro ⟨⟨Hy, H0, H1⟩, Hd⟩
  ihave H := (sep_mono .rfl (BI.bigSep_mono fun p _ => (show (tileOut m rs d p.1 p.2 : sProp 𝕄) ⊢ _ from by
    unfold tileOut pieceOut piece
    iintro ⟨%g, -, Hg, HR⟩; iexists g; isplitl [Hg] <;> iassumption))).trans hk $$ [Hy Hd]
  · isplitl [Hy] <;> iassumption
  icases H with ⟨Hy, Hd⟩
  isplitl [Hd]; · unfold piece; iexact Hd
  isplitl [Hy]; · iexact Hy
  isplitl [H0] <;> iassumption

end Cert.Proof

end
-- ==== Proof.Grouped.lean ====
/-
  The grouped-experts call on the TensorCore. One grid point takes a block of 256 rows and the table's entry for it: of a
  live block (an entry not negative) the body leaves in the result's block one expression (`groupOut`) of the staged rows,
  the entry's slices of the weights and the rows' scales; of another it leaves the block as it finds it.
-/
module

public import proofs.«01_k».proof.Proof.Call
public import Idealize.ShloMosaic.Lib.Pipeline.RegionsLoop
public import Idealize.ShloMosaic.Lib.Pipeline.DatRel
public import Idealize.ShloMosaic.Lib.Pipeline.ArrRel

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The body on its blocks -/

abbrev rRows : Rect S256x384 := Rect.unit (s := S256x384) ![0, 0] S256x384.size inb_S256x384_S256x384_0_0
abbrev rWeights : Rect S256x1 := Rect.unit (s := S256x1) ![0, 0] S256x1.size inb_S256x1_S256x1_0_0

/-- The word of the table at a point's block, and what the point reads of it. -/
def entry (tab : Vec F S40 .i32) (i : grid0.Coords) : BitVec 32 :=
  tab ((Rect.unit (s := S40) (k0_off1 i) S1.size (k0_off1_inb i)).emb (Shape.Idx.first (numel1_S1.symm ▸ Nat.one_pos)))

/-- The block is some expert's. -/
abbrev Live (v : BitVec 32) : Prop := k0_cond1 v = 1#1

/-- The entries name experts below eight. -/
def TabOK (tab : Vec F S40 .i32) : Prop := ∀ j, (show BitVec 32 from tab j).toInt < 8

theorem maxsi_lt (v : BitVec 32) (hv : v.toInt < 8) : (Scalar.maxsi v 0#32).toNat < 8 := by
  unfold Scalar.maxsi IntOp.maxsi
  have h : v.toInt = if 2 * v.toNat < 2 ^ 32 then (v.toNat : Int) else (v.toNat : Int) - (2 ^ 32 : Nat) := rfl
  split
  · rename_i hs
    simp only [BitVec.slt, decide_eq_true_eq, BitVec.toInt_zero] at hs
    split at h <;> simp_all <;> omega
  · simp

theorem off3_le (v : BitVec 32) (hv : v.toInt < 8) (a : Fin 3) : k0_off3 v a + S1x384x768.size a ≤ S8x384x768.size a := by
  have := maxsi_lt v hv
  fin_cases a
  · show (Scalar.maxsi v 0#32).toNat + 1 ≤ 8; omega
  · show 0 + 384 ≤ 384; omega
  · show 0 + 768 ≤ 768; omega

theorem off4_le (v : BitVec 32) (hv : v.toInt < 8) (a : Fin 3) : k0_off4 v a + S1x768x384.size a ≤ S8x768x384.size a := by
  have := maxsi_lt v hv
  fin_cases a
  · show (Scalar.maxsi v 0#32).toNat + 1 ≤ 8; omega
  · show 0 + 768 ≤ 768; omega
  · show 0 + 384 ≤ 384; omega

/-- What the body writes in a live block, as a function of the entry and of what it reads. -/
def groupOut (v : BitVec 32) (hv : v.toInt < 8) (x0 : Vec F S256x384 .f32) (x1 x2 : Vec F S8x384x768 .f32) (x3 : Vec F S8x768x384 .f32) (x4 : Vec F S256x1 .f32) : Vec F S256x384 .f32 :=
  View.canon [⟨rRows, k0_pay1 (View.ld x0 rRows) (View.ld x1 (Rect.unit (s := S8x384x768) (k0_off3 v) S1x384x768.size (off3_le v hv)))
    (View.ld x2 (Rect.unit (s := S8x384x768) (k0_off3 v) S1x384x768.size (off3_le v hv)))
    (View.ld x3 (Rect.unit (s := S8x768x384) (k0_off4 v) S1x768x384.size (off4_le v hv))) (View.ld x4 rWeights)⟩]

theorem groupOut_covers (p : Vec F S256x384 .f32) (y : S256x384.Idx) :
    ∃ pc ∈ ([⟨rRows, p⟩] : List (View.Piece (Elt F) S256x384 .f32)), y ∈ pc.1.set :=
  View.cover_of_tiled [⟨rRows, p⟩] S256x384.size (by rfl) y

abbrev tabLoc (c : Dev nD) : Loc nD τ sig := (SparseCore.T c : Thread nD τ).loc main_arg1

theorem entry_read (tab : Vec F S40 .i32) (i : grid0.Coords) :
    ((Memref.whole main_arg1 : Memref sig .tc .smem S40 .i32).access (Rect.unit (s := S40) (k0_off1 i) S1.size (k0_off1_inb i))).read (Elt F) tab
      (Shape.Idx.first (numel1_S1.symm ▸ Nat.one_pos)) = entry tab i := rfl

set_option maxRecDepth 16384 in
set_option maxHeartbeats 1000000 in
theorem group_body (c : Dev nD) (E : Set ℕ) (i : grid0.Coords) (tab : Vec F S40 .i32) (htab : TabOK tab)
    (arg2 : Memref sig .tc .vmem S256x384 .f32) (harg2 : arg2.IsWhole) (arg3 : Memref sig .tc .vmem S8x384x768 .f32) (harg3 : arg3.IsWhole) (arg4 : Memref sig .tc .vmem S8x384x768 .f32) (harg4 : arg4.IsWhole) (arg5 : Memref sig .tc .vmem S8x768x384 .f32) (harg5 : arg5.IsWhole) (arg6 : Memref sig .tc .vmem S256x1 .f32) (harg6 : arg6.IsWhole) (arg7 : Memref sig .tc .vmem S256x384 .f32) (harg7 : arg7.IsWhole)
    (x0 : Vec F S256x384 .f32) (x1 x2 : Vec F S8x384x768 .f32) (x3 : Vec F S8x768x384 .f32) (x4 : Vec F S256x1 .f32) (Q : PUnit → sProp 𝕄) :
    iprop((tabLoc c ↦{fullShare} tab) ∗ owns (SparseCore.T c) arg2 fullShare x0 ∗ owns (SparseCore.T c) arg3 fullShare x1 ∗ owns (SparseCore.T c) arg4 fullShare x2 ∗ owns (SparseCore.T c) arg5 fullShare x3 ∗ owns (SparseCore.T c) arg6 fullShare x4 ∗ (∃ d, owns (SparseCore.T c) arg7 fullShare d)
        ∗ (iprop((tabLoc c ↦{fullShare} tab) ∗ owns (SparseCore.T c) arg2 fullShare x0 ∗ owns (SparseCore.T c) arg3 fullShare x1 ∗ owns (SparseCore.T c) arg4 fullShare x2 ∗ owns (SparseCore.T c) arg5 fullShare x3 ∗ owns (SparseCore.T c) arg6 fullShare x4
            ∗ ∃ X, ⌜Live (entry tab i) → X = groupOut (entry tab i) (htab _) x0 x1 x2 x3 x4⌝ ∗ owns (SparseCore.T c) arg7 fullShare X) -∗ Q ⟨⟩))
      ⊢ wp frame (wpE (defs₀ (F := F)) 𝒱₀ (SparseCore.T c) none) E (cc0__grouped_body i (Memref.whole main_arg1) (Memref.isWhole_whole _) arg2 harg2 arg3 harg3 arg4 harg4 arg5 harg5 arg6 harg6 arg7 harg7) Q := by
  simp only [cc0__grouped_body_eq_skeleton]; unfold cc0__grouped_body_skel
  simp only [smemLoad, smemLoadElt, Prog.lift, Prog.bind_op, Prog.bind_ret, Prog.pure_eq_ret]
  iintro ⟨Ht, H0, H1, H2, H3, H4, ⟨%d5, H5⟩, Hk⟩
  iapply (wp_load_rect 𝒱₀ (SparseCore.T c) none E (m := Memref.whole main_arg1) (r := Rect.unit (s := S40) (k0_off1 i) S1.size (k0_off1_inb i)) (Finset.subset_univ _)) $$ Ht; iintro Ht
  rw [entry_read]
  by_cases hl : Live (entry tab i)
  · rw [dif_pos hl]
    simp only [Prog.bind_op, Prog.bind_ret]
    iapply (wp_load_rect 𝒱₀ (SparseCore.T c) none E (m := Memref.whole main_arg1) (r := Rect.unit (s := S40) (k0_off2 i) S1.size (k0_off2_inb i)) (Finset.subset_univ _)) $$ Ht; iintro Ht
    have he2 : ((Memref.whole main_arg1 : Memref sig .tc .smem S40 .i32).access (Rect.unit (s := S40) (k0_off2 i) S1.size (k0_off2_inb i))).read (Elt F) tab
      (Shape.Idx.first (numel1_S1.symm ▸ Nat.one_pos)) = entry tab i := rfl
    rw [he2]
    have hchk : k0_chk1 (entry tab i) (entry tab i) := ⟨fun _ => off3_le _ (htab _), fun _ => off4_le _ (htab _)⟩
    rw [wp_assume_of _ _ _ _ hchk]
    unfold owns
    icases H0 with ⟨%f0, %h0, H0⟩
    icases H1 with ⟨%f1, %h1, H1⟩
    icases H2 with ⟨%f2, %h2, H2⟩
    icases H3 with ⟨%f3, %h3, H3⟩
    icases H4 with ⟨%f4, %h4, H4⟩
    icases H5 with ⟨%f5, -, H5⟩
    subst h0 h1 h2 h3 h4
    sl_exec
    sl_step
    iapply Hk
    isplitl [Ht]; · iexact Ht
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    iexists _; isplitr
    swap
    · iexists _; isplitr
      swap; · iexact H5
      ipureintro; rfl
    ipureintro
    exact fun _ => View.read_writes_eq_canon _ _ _ (groupOut_covers _)
  · rw [dif_neg hl]
    simp only [Prog.bind_ret]
    rw [wp_ret]; imodintro
    iapply Hk
    isplitl [Ht]; · iexact Ht
    isplitl [H0]; · iexact H0
    isplitl [H1]; · iexact H1
    isplitl [H2]; · iexact H2
    isplitl [H3]; · iexact H3
    isplitl [H4]; · iexact H4
    iexists d5; isplitr; · ipureintro; exact fun h => absurd h hl
    iexact H5

/-! ## The table and the pipeline's data, from any contents of the arrays -/

/-- The prefetched table's contents. -/
def tabs (tab : Vec F S40 .i32) : pre0.Contents (Elt F)
  | ⟨0, _⟩ => tab

abbrev adm0 (tab : Vec F S40 .i32) : (pcfg0 (F := F)).Adm := ⟨tabs tab, trivial⟩

abbrev adm (tab : Vec F S40 .i32) : (p : Fin 2) → (pcfgs (F := F) p).Adm
  | ⟨0, _⟩ => adm0 tab
  | ⟨1, _⟩ => cfg2.toPCfg_adm

abbrev gcfg (tab : Vec F S40 .i32) : Pipeline.Cfg sig Λ₀ := cfg0 (adm0 tab)

variable (tab : Vec F S40 .i32)
variable (W : (c : Dev nD) → (b : Ref sig .tc) → Buf (Elt F) ((SparseCore.T c : Thread nD τ).loc b))

/-- Window `w`'s block at point `t`. -/
def gblock (c : Dev nD) (w : Fin (gcfg tab).W) (t : Fin (gcfg tab).N) : (((gcfg tab).win w).xblock ((gcfg tab).grid.coords t)).Idx → Elt F ((gcfg tab).win w).elt :=
  (((gcfg tab).win w).blk t).view.read (Elt F) (W c (Pipeline.arrRef spec0 w))

/-- Waits recorded before the two-gather call are at the lowest level. -/
def zeroPairs (c : Dev nD) : Set (SemLoc sig × HIx 1) := {p | (K (F := F)).lev (SparseCore.T c, p.1) p.2 ≤ 0}

def gdat (c : Dev nD) : Pipeline.Dat τ (Elt F) (HIx 1) ℕ UU ℕ (gcfg tab) c where
  A w := W c (Pipeline.arrRef spec0 w)
  after w t := gblock tab W c w t
  Φ _ := iprop(Pipeline.scopedRest (Ix := HIx 1) (Name := ℕ) (U := UU) (Lvl := ℕ) (Val := Elt F) spec0 c ∗ (tabLoc c ↦{fullShare} tab))
  q _ := fullShare
  owed _ := (K (F := F)).Otc c 0
  recorded _ := zeroPairs (F := F) c

theorem gdat_A (c : Dev nD) (w : Fin (gcfg tab).W) : (gdat tab W c).A w = W c (Pipeline.arrRef spec0 w) := by dsimp only [gdat]
theorem gdat_after (c : Dev nD) (w : Fin (gcfg tab).W) (t : Fin (gcfg tab).N) : (gdat tab W c).after w t = gblock tab W c w t := by dsimp only [gdat]

theorem gbefore_0 (c : Dev nD) (t : Fin (gcfg tab).N) (d) : (gdat tab W c).before 0 t d = gblock tab W c 0 t :=
  ((gdat tab W c).before_in_eq_fetched 0 rfl (fun _ => rfl) (fun _ _ _ => rfl) (fun t => by rw [gdat_after]; unfold Pipeline.Dat.blockOf gblock; rw [gdat_A]) t d).trans
    (by unfold Pipeline.Dat.fetched Pipeline.Dat.blockOf gblock; rw [gdat_A]; rfl)
theorem gbefore_1 (c : Dev nD) (t : Fin (gcfg tab).N) (d) : (gdat tab W c).before 1 t d = gblock tab W c 1 t :=
  ((gdat tab W c).before_in_eq_fetched 1 rfl (fun _ => rfl) (fun _ _ _ => rfl) (fun t => by rw [gdat_after]; unfold Pipeline.Dat.blockOf gblock; rw [gdat_A]) t d).trans
    (by unfold Pipeline.Dat.fetched Pipeline.Dat.blockOf gblock; rw [gdat_A]; rfl)
theorem gbefore_2 (c : Dev nD) (t : Fin (gcfg tab).N) (d) : (gdat tab W c).before 2 t d = gblock tab W c 2 t :=
  ((gdat tab W c).before_in_eq_fetched 2 rfl (fun _ => rfl) (fun _ _ _ => rfl) (fun t => by rw [gdat_after]; unfold Pipeline.Dat.blockOf gblock; rw [gdat_A]) t d).trans
    (by unfold Pipeline.Dat.fetched Pipeline.Dat.blockOf gblock; rw [gdat_A]; rfl)
theorem gbefore_3 (c : Dev nD) (t : Fin (gcfg tab).N) (d) : (gdat tab W c).before 3 t d = gblock tab W c 3 t :=
  ((gdat tab W c).before_in_eq_fetched 3 rfl (fun _ => rfl) (fun _ _ _ => rfl) (fun t => by rw [gdat_after]; unfold Pipeline.Dat.blockOf gblock; rw [gdat_A]) t d).trans
    (by unfold Pipeline.Dat.fetched Pipeline.Dat.blockOf gblock; rw [gdat_A]; rfl)
theorem gbefore_4 (c : Dev nD) (t : Fin (gcfg tab).N) (d) : (gdat tab W c).before 4 t d = gblock tab W c 4 t :=
  ((gdat tab W c).before_in_eq_fetched 4 rfl (fun _ => rfl) (fun _ _ _ => rfl) (fun t => by rw [gdat_after]; unfold Pipeline.Dat.blockOf gblock; rw [gdat_A]) t d).trans
    (by unfold Pipeline.Dat.fetched Pipeline.Dat.blockOf gblock; rw [gdat_A]; rfl)

/-! ## The body at a point: of the result's block only a live one is named -/

/-- A live point's block of the result. -/
def liveOut (htab : TabOK tab) (c : Dev nD) (t : Fin (gcfg tab).N) : Vec F S256x384 .f32 :=
  groupOut (entry tab (grid0.coords t)) (htab _) (gblock tab W c 0 t) (gblock tab W c 1 t) (gblock tab W c 2 t) (gblock tab W c 3 t) (gblock tab W c 4 t)

abbrev marked (w : Fin (gcfg tab).W) : Bool := w == (5 : Fin 6)

def Leaves (htab : TabOK tab) (c : Dev nD) (w : Fin (gcfg tab).W) (t : Fin (gcfg tab).N) : (((gcfg tab).win w).block.Idx → Elt F ((gcfg tab).win w).elt) → Prop :=
  match w with
  | ⟨5, _⟩ => fun X => Live (entry tab (grid0.coords t)) → X = liveOut tab W htab c t
  | _ => fun _ => True

abbrev gst (t : Fin (gcfg tab).N) (w : Fin (gcfg tab).W) := ((gcfg tab).win w).stage ((gcfg tab).slots t w)

def gpre (htab : TabOK tab) (c : Dev nD) (t : Fin (gcfg tab).N) : sProp 𝕄 :=
  iprop((gdat tab W c).Φ t.castSucc ∗ (gdat tab W c).owesAt none t.castSucc
    ∗ (∃ d, owns (SparseCore.T c) (gst tab t 0) fullShare ((gdat tab W c).before 0 t d))
    ∗ (∃ d, owns (SparseCore.T c) (gst tab t 1) fullShare ((gdat tab W c).before 1 t d))
    ∗ (∃ d, owns (SparseCore.T c) (gst tab t 2) fullShare ((gdat tab W c).before 2 t d))
    ∗ (∃ d, owns (SparseCore.T c) (gst tab t 3) fullShare ((gdat tab W c).before 3 t d))
    ∗ (∃ d, owns (SparseCore.T c) (gst tab t 4) fullShare ((gdat tab W c).before 4 t d))
    ∗ (∃ Y, ⌜((gdat tab W c).toRRel (marked tab) (Leaves tab W htab c)).Finds 5 t Y⌝ ∗ owns (SparseCore.T c) (gst tab t 5) fullShare Y))

def gpost (htab : TabOK tab) (c : Dev nD) (t : Fin (gcfg tab).N) : sProp 𝕄 :=
  iprop((gdat tab W c).Φ t.succ ∗ (gdat tab W c).owesAt none t.succ
    ∗ owns (SparseCore.T c) (gst tab t 0) fullShare ((gdat tab W c).after 0 t)
    ∗ owns (SparseCore.T c) (gst tab t 1) fullShare ((gdat tab W c).after 1 t)
    ∗ owns (SparseCore.T c) (gst tab t 2) fullShare ((gdat tab W c).after 2 t)
    ∗ owns (SparseCore.T c) (gst tab t 3) fullShare ((gdat tab W c).after 3 t)
    ∗ owns (SparseCore.T c) (gst tab t 4) fullShare ((gdat tab W c).after 4 t)
    ∗ (∃ X, ⌜Leaves tab W htab c 5 t X⌝ ∗ owns (SparseCore.T c) (gst tab t 5) fullShare X))

/-- The body as the pipeline calls it at point `t`. -/
abbrev gbodyAt (t : Fin (gcfg tab).N) : Prog (TpuEff nD τ sig (Elt F) Λ₀ .tc) PUnit :=
  defs₀ (F := F) .tc (gcfg tab).body ((gcfg tab).bodyArgs t ((gcfg tab).slots t))

theorem gpoint_body (htab : TabOK tab) (c : Dev nD) (t : Fin (gcfg tab).N) :
    gpre tab W htab c t ⊢ wp frame (wpE (defs₀ (F := F)) 𝒱₀ (SparseCore.T c) none) Set.univ (gbodyAt tab t) (fun _ => gpost tab W htab c t) := by
  unfold gpre gpost
  simp only [gbefore_0, gbefore_1, gbefore_2, gbefore_3, gbefore_4, gdat_after]
  rw [show (gdat tab W c).Φ t.succ = (gdat tab W c).Φ t.castSucc from rfl,
    show (gdat tab W c).owesAt none t.succ = (gdat tab W c).owesAt none t.castSucc from rfl,
    show (gdat tab W c).Φ t.castSucc = iprop(Pipeline.scopedRest (Ix := HIx 1) (Name := ℕ) (U := UU) (Lvl := ℕ) (Val := Elt F) spec0 c ∗ (tabLoc c ↦{fullShare} tab)) from rfl]
  iintro ⟨⟨HΦ, Ht⟩, Ho, ⟨%d0, H0⟩, ⟨%d1, H1⟩, ⟨%d2, H2⟩, ⟨%d3, H3⟩, ⟨%d4, H4⟩, ⟨%Y, -, H5⟩⟩
  iapply (group_body c Set.univ (grid0.coords t) tab htab _ (hstage0_0 (((gcfg tab).slots t 0).cast nbuf0_0)) _ (hstage0_1 (((gcfg tab).slots t 1).cast nbuf0_1)) _ (hstage0_2 (((gcfg tab).slots t 2).cast nbuf0_2)) _ (hstage0_3 (((gcfg tab).slots t 3).cast nbuf0_3)) _ (hstage0_4 (((gcfg tab).slots t 4).cast nbuf0_4)) _ (hstage0_5 (((gcfg tab).slots t 5).cast nbuf0_5)) (gblock tab W c 0 t) (gblock tab W c 1 t) (gblock tab W c 2 t) (gblock tab W c 3 t) (gblock tab W c 4 t) _)
  isplitl [Ht]; · iexact Ht
  isplitl [H0]; · iexact H0
  isplitl [H1]; · iexact H1
  isplitl [H2]; · iexact H2
  isplitl [H3]; · iexact H3
  isplitl [H4]; · iexact H4
  isplitl [H5]; · iexists _; iexact H5
  iintro ⟨Ht, H0, H1, H2, H3, H4, ⟨%X, %hX, H5⟩⟩
  isplitl [HΦ Ht]; · isplitl [HΦ] <;> iassumption
  isplitl [Ho]; · iexact Ho
  isplitl [H0]; · iexact H0
  isplitl [H1]; · iexact H1
  isplitl [H2]; · iexact H2
  isplitl [H3]; · iexact H3
  isplitl [H4]; · iexact H4
  iexists X; isplitr; · ipureintro; exact hX
  iexact H5

theorem gpoints (htab : TabOK tab) (c : Dev nD) :
    Pipeline.BodyObligationRel (gdat tab W c) (defs₀ (F := F)) 𝒱₀ none Set.univ (marked tab) (Leaves tab W htab c) := fun t => by
  rw [bigSep_W0, bigSep_W0]
  exact triple_restated (gpoint_body tab W htab c t) rfl .rfl fun _ => .rfl

/-! ## What a run leaves of the result: the live blocks -/

theorem flush_out (t : Fin (gcfg tab).N) : ((gcfg tab).win 5).flush t = true :=
  (Pipeline.Window.flush_reads ((gcfg tab).win 5) rfl 0 (show 1 < grid0.bound 0 by decide) (show grid0.fixedAfter reads0_5 0 = true by decide)
    (Pipeline.Window.sep_of_coord cc0_transform_5 0 0 (fun _ => rfl) (by decide)) (P := 1) (m := 0) (show grid0.stride 0 = 1 by decide) rfl t).mpr (Nat.mod_one _)

theorem block_row (t : Fin grid0.N) : cc0_transform_5 (grid0.coords t) (0 : Fin 2) = t.val :=
  (by decide +kernel : ∀ t : Fin grid0.N, cc0_transform_5 (grid0.coords t) (0 : Fin 2) = t.val) t

theorem gblocks_apart : ∀ t t' : Fin (gcfg tab).N, ((gcfg tab).win 5).flush t = true → ((gcfg tab).win 5).flush t' = true → t ≠ t' →
    Disjoint (((gcfg tab).win 5).blk t).view.set (((gcfg tab).win 5).blk t').view.set :=
  fun t t' _ _ hne => ((gcfg tab).win 5).disjoint_blk fun h =>
    hne (Fin.ext ((block_row t).symm.trans ((congrFun (show cc0_transform_5 (grid0.coords t) = cc0_transform_5 (grid0.coords t') from h) 0).trans (block_row t'))))

/-- Contents whose live blocks are the product network's. -/
def Good (htab : TabOK tab) (c : Dev nD) (f : Buf (Elt F) ((SparseCore.T c : Thread nD τ).loc main_v3)) : Prop :=
  ∀ t : Fin (gcfg tab).N, Live (entry tab (grid0.coords t)) → ∀ y : S256x384.Idx,
    f ((((gcfg tab).win 5).blk t).view.emb y) = liveOut tab W htab c t y

theorem good_of_after (htab : TabOK tab) (c : Dev nD) (dat : Pipeline.Dat τ (Elt F) (HIx 1) ℕ UU ℕ (gcfg tab) c)
    (h : ∀ t, Live (entry tab (grid0.coords t)) → dat.after 5 t = liveOut tab W htab c t) : Good tab W htab c (dat.arrAt 5 (gcfg tab).N) := by
  intro t hl y
  refine (dat.arrAt_emb_eq_flushed 5 (gblocks_apart tab) t (flush_out tab t) y).trans ?_
  show ((gcfg tab).win 5).cut (grid0.coords t) (dat.after 5 t) y = _
  rw [h t hl]
  rfl

/-! ## The call as a segment of the host program -/

variable [∀ e, Nonempty (Elt F e)]

/-- Data for the other pipeline, which this segment never reads. -/
def restDat (c : Dev nD) : Pipeline.Dat τ (Elt F) (HIx 1) ℕ UU ℕ cfg2 c where
  A w := W c (Pipeline.arrRef spec2 w)
  after _ _ _ := Classical.arbitrary _
  Φ _ := BI.emp
  q _ := fullShare
  owed _ := 0
  recorded _ := ∅

def gdats : (p : Fin 2) → (c : Dev nD) → Pipeline.Dat τ (Elt F) (HIx 1) ℕ UU ℕ (Pipeline.pin (pcfgs (F := F)) (adm tab) p) c
  | ⟨0, _⟩ => fun c => gdat tab W c
  | ⟨1, _⟩ => fun c => restDat W c

def grel (htab : TabOK tab) : (p : Fin 2) → (c : Dev nD) → Pipeline.RDat τ (Elt F) (HIx 1) ℕ UU ℕ (Pipeline.pin (pcfgs (F := F)) (adm tab) p) c
  | ⟨0, _⟩ => fun c => (gdat tab W c).toRRel (marked tab) (Leaves tab W htab c)
  | ⟨1, _⟩ => fun c => (restDat W c).toR

theorem ins_only : ∀ w : Fin 6, w ≠ 5 → (spec0 w).isOut = false := by decide

theorem garrays_post (htab : TabOK tab) (c : Dev nD) :
    ((grel tab W htab 0 c).arraysAt (gcfg tab).N : sProp 𝕄)
      ⊢ iprop(∃ G : (w : Fin (gcfg tab).W) → Buf (Elt F) (((gcfg tab).win w).arr.view.loc (SparseCore.T c : Thread nD τ)),
          ⌜(∀ w : Fin 6, w ≠ 5 → G w = W c (Pipeline.arrRef spec0 w)) ∧ Good tab W htab c (G 5)⌝ ∗ (gdats tab W 0 c).arrays G) := by
  unfold Pipeline.RDat.arraysAt
  haveI : ∀ w : Fin (gcfg tab).W, Nonempty (Buf (Elt F) (((gcfg tab).win w).arr.view.loc (SparseCore.T c : Thread nD τ))) := fun w =>
    ⟨W c (Pipeline.arrRef spec0 w)⟩
  refine (Idealize.SL.BI.bigSep_exists_pi _ _).trans ?_
  iintro ⟨%G, H⟩
  ihave H := (show _ ⊢ iprop(⌜∀ w ∈ Finset.univ, (grel tab W htab 0 c).ArrAt w (gcfg tab).N (G w)⌝ ∗ (gdats tab W 0 c).arrays G) from
    Idealize.SL.BI.bigSep_pure_sep Finset.univ (fun w => (grel tab W htab 0 c).ArrAt w (gcfg tab).N (G w)) (fun w => iprop(((gcfg tab).win w).arr.view.loc (SparseCore.T c : Thread nD τ)
      ↦[((gcfg tab).win w).arr.view.set]{(grel tab W htab 0 c).share w} G w))) $$ H
  icases H with ⟨%hG, H⟩
  iexists G
  isplitr
  · ipureintro
    obtain ⟨after, hl, hA⟩ := Pipeline.RDat.ArrAt.exists_exact_all (rd := grel tab W htab 0 c) (fun w => hG w (Finset.mem_univ w))
    refine ⟨fun w hw => ?_, ?_⟩
    · rw [hA w]
      exact ((grel tab W htab 0 c).withAfter after).arrAt_in w (ins_only w hw) _
    · rw [hA 5]
      exact good_of_after tab W htab c _ fun t ht =>
        (gdat tab W c).toRRel_leaves (fgt := marked tab) (Rl := Leaves tab W htab c) (w := (5 : Fin 6)) rfl (hl 5 t t.isLt (flush_out tab t)) ht
  iexact H

/-- The core's debts before the two-gather call. -/
abbrev owesStart (c : Dev nD) : sProp 𝕄 := iprop(∃ X, ⌜(K (F := F)).WBelow (SparseCore.T c) X 0⌝ ∗ owes (SparseCore.T c) ((K (F := F)).Otc c 0) X)

variable (W' : (c : Dev nD) → Buf (Elt F) ((SparseCore.T c : Thread nD τ).loc main_v3) → (b : Ref sig .tc) → Buf (Elt F) ((SparseCore.T c : Thread nD τ).loc b))

set_option backward.isDefEq.respectTransparency.types false in
def groupSeg (htab : TabOK tab) (hW : ∀ c, W c main_arg1 = tab) (hout : ∀ c f, W' c f main_v3 = f)
    (hne : ∀ c f (b : Ref sig .tc), b ≠ main_v3 → W' c f b = W c b) :
    Pipeline.RDat.RegionSeg (pcfgs (F := F)) (adm tab) (grel tab W htab) none (defs₀ (F := F)) 𝒱₀ (K (F := F)).L (K (F := F)).lev 0 where
  win := (launch0 (F := F)).win.to₀
  block_pos := (launch0 (F := F)).block_pos
  stage_whole := (launch0 (F := F)).stage_whole
  K := PEmpty
  osem k := k.elim
  ho := Pipeline.OwnSemFacts.none _
  hbody c := (gpoints tab W htab c).toRRel
  hwaits c := Pipeline.RDat.cellsWaits_of_cut (Pipeline.pin (pcfgs (F := F)) (adm tab)) (grel tab W htab) none 0 c 0 ((K (F := F)).Otc c 0)
    (fun _ => rfl) (fun _ _ => Finset.mem_univ _) (fun _ _ => le_rfl)
    (fun _ _ h => ⟨Finset.mem_univ _, lt_of_lt_of_le (Nat.succ_pos _) ((K (F := F)).lev_of_Otc_pos h)⟩)
  pre c := iprop(unscopedBufs c (W c) ∗ owesStart c)
  post c := iprop(∃ f, ⌜Good tab W htab c f⌝ ∗ unscopedBufs c (W' c f) ∗ owesStart c)
  X _ := BI.emp
  Y c := iprop(tabLoc c ↦{fullShare} tab)
  Z c := iprop(Pipeline.unscopedRestP (Ix := HIx 1) (Name := ℕ) (U := UU) (Lvl := ℕ) pre0 spec0 c (W c))
  hentry c := by
    rw [Pipeline.ownSems0_none]
    have hsplit := Pipeline.RDat.arrays_of_unscopedBufs (p := 0) (pcfgs (F := F)) (adm tab) (grel tab W htab) (launch0 (F := F)).win (launch0 (F := F)).arr_whole c
      ((gdats tab W 0 c).share_full fun _ => rfl) (W c) fun _ => rfl
    have hrest := Pipeline.unscopedRest_split (Ix := HIx 1) (Name := ℕ) (U := UU) (Lvl := ℕ) (Val := Elt F) preFacts0 c (W c)
    iintro ⟨⟨Hub, %X, %hX, HO⟩, -, -⟩
    ihave H := hsplit $$ Hub
    icases H with ⟨Ha, Hrest⟩
    ihave Hrest := (Entails.of_eq hrest) $$ Hrest
    icases Hrest with ⟨Hpf, Hrest⟩
    imodintro
    isplitl [Ha]; · iexact Ha
    isplitl [Hpf]
    · iapply (Entails.of_eq (show (Pipeline.prefHeld pre0 c (fun _ => fullShare) (fun k => W c (pre0.ref k)) : sProp 𝕄)
        = Pipeline.prefHeld pre0 c (fun _ => fullShare) (tabs tab) from by
          congr 1; funext k; match k with | ⟨0, _⟩ => exact hW c))
      iexact Hpf
    isplitl [HO]
    · unfold Pipeline.RDat.owesAt Pipeline.owesWithin
      iexists X; isplitr; · ipureintro; exact fun p hp => Or.inl (hX p hp)
      iexact HO
    isplitr; · iempintro
    iexact Hrest
  hin c := by
    show iprop(BI.emp ∗ Pipeline.prefHeld pre0 c (fun _ => fullShare) (tabs tab) ∗ Pipeline.scopedRest spec0 c) ⊢ iprop(Pipeline.scopedRest spec0 c ∗ (tabLoc c ↦{fullShare} tab))
    unfold Pipeline.prefHeld
    rw [bigSep_univ_of_subsingleton (0 : Fin 1)]
    iintro ⟨-, Ht, Hr⟩
    isplitl [Hr]; · iexact Hr
    iexact Ht
  hout c := by
    rw [Pipeline.ownSems0_none]
    show iprop(Pipeline.scopedRest spec0 c ∗ (tabLoc c ↦{fullShare} tab)) ⊢ iprop((tabLoc c ↦{fullShare} tab) ∗ BI.emp ∗ Pipeline.scopedRest spec0 c)
    iintro ⟨Hr, Ht⟩
    isplitl [Ht]; · iexact Ht
    isplitr; · iempintro
    iexact Hr
  hexit c := by
    have hrest := Pipeline.unscopedRest_split (Ix := HIx 1) (Name := ℕ) (U := UU) (Lvl := ℕ) (Val := Elt F) preFacts0 c (W c)
    iintro ⟨Ha, HO, Ht, Hrest⟩
    ihave Ha := (garrays_post tab W htab c) $$ Ha
    icases Ha with ⟨%G, %hG, Ha⟩
    have hjoin := Pipeline.unscopedBufs_of_arrays (p := 0) (pcfgs (F := F)) (adm tab) (Ix := HIx 1) (Name := ℕ) (U := UU) (Lvl := ℕ) (launch0 (F := F)).win (launch0 (F := F)).arr_whole c
      (gdats tab W) ((gdats tab W 0 c).share_full fun _ => rfl) (W c) (W' c (G (5 : Fin 6))) G
      (fun w => by
        fin_cases w
        · exact (hG.1 0 (by decide)).trans (hne c _ main_arg2 (by decide)).symm
        · exact (hG.1 1 (by decide)).trans (hne c _ main_arg3 (by decide)).symm
        · exact (hG.1 2 (by decide)).trans (hne c _ main_arg4 (by decide)).symm
        · exact (hG.1 3 (by decide)).trans (hne c _ main_arg5 (by decide)).symm
        · exact (hG.1 4 (by decide)).trans (hne c _ main_v2 (by decide)).symm
        · exact (hout c _).symm)
      (fun b hb => hne c _ b fun h => hb (h ▸ Finset.mem_image.mpr ⟨(5 : Fin 6), Finset.mem_univ _, rfl⟩))
    imodintro
    iexists G (5 : Fin 6)
    isplitr; · ipureintro; exact hG.2
    isplitl [Ha Ht Hrest]
    · iapply hjoin
      isplitl [Ha]; · iexact Ha
      iapply (Entails.of_eq hrest.symm)
      isplitl [Ht]
      · unfold Pipeline.prefHeld
        rw [bigSep_univ_of_subsingleton (0 : Fin 1)]
        rw [show (fun k => W c (pre0.ref k)) (0 : Fin 1) = tab from hW c]
        iexact Ht
      iexact Hrest
    unfold Pipeline.RDat.owesAt Pipeline.owesWithin
    icases HO with ⟨%X, %hX, HO⟩; iexists X; isplitr
    · ipureintro
      intro p hp
      rcases hX hp with h | ⟨w, s, rfl⟩
      · exact h
      · exact Nat.zero_le _
    · iexact HO

end Cert.Proof

end
-- ==== Proof.Shared.lean ====
/-
  The shared-expert call on the TensorCore. One grid point takes 512 tokens: the body runs on the staged blocks and leaves
  in the result's block one expression of them (`blockOut`). The pipeline's data over any contents `W` of the arrays, and
  the call as a segment of the host program: from every array at `W` to the same with the result replaced.
-/
module

public import proofs.«01_k».proof.Proof.Grouped
public import Idealize.ShloMosaic.Lib.Pipeline.RegionsLoop

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The body on its blocks -/

abbrev rTok : Rect S512x384 := Rect.unit (s := S512x384) ![0, 0] S512x384.size inb_S512x384_S512x384_0_0
abbrev rUp : Rect S384x768 := Rect.unit (s := S384x768) ![0, 0] S384x768.size inb_S384x768_S384x768_0_0
abbrev rDown : Rect S768x384 := Rect.unit (s := S768x384) ![0, 0] S768x384.size inb_S768x384_S768x384_0_0

/-- What the body writes, as a function of what it reads. -/
def blockOut (x0 : Vec F S512x384 .f32) (x1 x2 : Vec F S384x768 .f32) (x3 : Vec F S768x384 .f32) (x4 x5 : Vec F S512x384 .f32) : Vec F S512x384 .f32 :=
  View.canon [⟨rTok, k2_pay1 (View.ld x0 rTok) (View.ld x1 rUp) (View.ld x2 rUp) (View.ld x3 rDown) (View.ld x4 rTok) (View.ld x5 rTok)⟩]

theorem blockOut_covers (p : Vec F S512x384 .f32) (y : S512x384.Idx) :
    ∃ pc ∈ ([⟨rTok, p⟩] : List (View.Piece (Elt F) S512x384 .f32)), y ∈ pc.1.set :=
  View.cover_of_tiled [⟨rTok, p⟩] S512x384.size (by rfl) y

set_option maxRecDepth 16384 in
set_option maxHeartbeats 1000000 in
theorem shared_body (c : Dev nD) (E : Set ℕ) (i : grid2.Coords) (arg1 : Memref sig .tc .vmem S512x384 .f32) (harg1 : arg1.IsWhole) (arg2 : Memref sig .tc .vmem S384x768 .f32) (harg2 : arg2.IsWhole) (arg3 : Memref sig .tc .vmem S384x768 .f32) (harg3 : arg3.IsWhole) (arg4 : Memref sig .tc .vmem S768x384 .f32) (harg4 : arg4.IsWhole) (arg5 : Memref sig .tc .vmem S512x384 .f32) (harg5 : arg5.IsWhole) (arg6 : Memref sig .tc .vmem S512x384 .f32) (harg6 : arg6.IsWhole) (arg7 : Memref sig .tc .vmem S512x384 .f32) (harg7 : arg7.IsWhole)
    (x0 : Vec F S512x384 .f32) (x1 x2 : Vec F S384x768 .f32) (x3 : Vec F S768x384 .f32) (x4 x5 : Vec F S512x384 .f32) (Q : PUnit → sProp 𝕄) :
    iprop(owns (SparseCore.T c) arg1 fullShare x0 ∗ owns (SparseCore.T c) arg2 fullShare x1 ∗ owns (SparseCore.T c) arg3 fullShare x2 ∗ owns (SparseCore.T c) arg4 fullShare x3 ∗ owns (SparseCore.T c) arg5 fullShare x4 ∗ owns (SparseCore.T c) arg6 fullShare x5 ∗ (∃ d, owns (SparseCore.T c) arg7 fullShare d)
        ∗ (iprop(owns (SparseCore.T c) arg1 fullShare x0 ∗ owns (SparseCore.T c) arg2 fullShare x1 ∗ owns (SparseCore.T c) arg3 fullShare x2 ∗ owns (SparseCore.T c) arg4 fullShare x3 ∗ owns (SparseCore.T c) arg5 fullShare x4 ∗ owns (SparseCore.T c) arg6 fullShare x5 ∗ owns (SparseCore.T c) arg7 fullShare (blockOut x0 x1 x2 x3 x4 x5)) -∗ Q ⟨⟩))
      ⊢ wp frame (wpE (defs₀ (F := F)) 𝒱₀ (SparseCore.T c) none) E (cc2__shared_body i arg1 harg1 arg2 harg2 arg3 harg3 arg4 harg4 arg5 harg5 arg6 harg6 arg7 harg7) Q := by
  simp only [cc2__shared_body_eq_skeleton]; unfold cc2__shared_body_skel
  unfold owns
  iintro ⟨⟨%f0, %h0, H0⟩, ⟨%f1, %h1, H1⟩, ⟨%f2, %h2, H2⟩, ⟨%f3, %h3, H3⟩, ⟨%f4, %h4, H4⟩, ⟨%f5, %h5, H5⟩, ⟨%d6, %f6, -, H6⟩, Hk⟩
  subst h0 h1 h2 h3 h4 h5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (blockOut_covers _)

/-! ## The pipeline's data, from any contents of the arrays -/

variable (W : (c : Dev nD) → (b : Ref sig .tc) → Buf (Elt F) ((SparseCore.T c : Thread nD τ).loc b))

/-- Window `w`'s block at point `t`. -/
def blockIn (c : Dev nD) (w : Fin cfg2.W) (t : Fin cfg2.N) : ((cfg2.win w).xblock (cfg2.grid.coords t)).Idx → Elt F (cfg2.win w).elt :=
  ((cfg2.win w).blk t).view.read (Elt F) (W c (Pipeline.arrRef spec2 w))

/-- Waits recorded so far stay at or below the level the call left. -/
def lowPairs (c : Dev nD) : Set (SemLoc sig × HIx 1) := {p | (K (F := F)).lev (SparseCore.T c, p.1) p.2 ≤ 8}

def dat (c : Dev nD) : Pipeline.Dat τ (Elt F) (HIx 1) ℕ UU ℕ cfg2 c where
  A w := W c (Pipeline.arrRef spec2 w)
  after w t := match w with
    | ⟨0, _⟩ => blockIn W c 0 t
    | ⟨1, _⟩ => blockIn W c 1 t
    | ⟨2, _⟩ => blockIn W c 2 t
    | ⟨3, _⟩ => blockIn W c 3 t
    | ⟨4, _⟩ => blockIn W c 4 t
    | ⟨5, _⟩ => blockIn W c 5 t
    | ⟨6, _⟩ => blockOut (blockIn W c 0 t) (blockIn W c 1 t) (blockIn W c 2 t) (blockIn W c 3 t) (blockIn W c 4 t) (blockIn W c 5 t)
  Φ _ := Pipeline.scopedRest (Ix := HIx 1) (Name := ℕ) (U := UU) (Lvl := ℕ) (Val := Elt F) spec2 c
  q _ := fullShare
  owed _ := 0
  recorded _ := lowPairs (F := F) c

theorem dat_A (c : Dev nD) (w : Fin cfg2.W) : (dat W c).A w = W c (Pipeline.arrRef spec2 w) := by dsimp only [dat]
theorem after_0 (c : Dev nD) (t : Fin cfg2.N) : (dat W c).after 0 t = blockIn W c 0 t := by dsimp only [dat]
theorem after_1 (c : Dev nD) (t : Fin cfg2.N) : (dat W c).after 1 t = blockIn W c 1 t := by dsimp only [dat]
theorem after_2 (c : Dev nD) (t : Fin cfg2.N) : (dat W c).after 2 t = blockIn W c 2 t := by dsimp only [dat]
theorem after_3 (c : Dev nD) (t : Fin cfg2.N) : (dat W c).after 3 t = blockIn W c 3 t := by dsimp only [dat]
theorem after_4 (c : Dev nD) (t : Fin cfg2.N) : (dat W c).after 4 t = blockIn W c 4 t := by dsimp only [dat]
theorem after_5 (c : Dev nD) (t : Fin cfg2.N) : (dat W c).after 5 t = blockIn W c 5 t := by dsimp only [dat]
theorem after_out (c : Dev nD) (t : Fin cfg2.N) : (dat W c).after 6 t = blockOut (blockIn W c 0 t) (blockIn W c 1 t) (blockIn W c 2 t) (blockIn W c 3 t) (blockIn W c 4 t) (blockIn W c 5 t) := by dsimp only [dat]

theorem before_0 (c : Dev nD) (t : Fin cfg2.N) (d) : (dat W c).before 0 t d = blockIn W c 0 t :=
  ((dat W c).before_in_eq_fetched 0 rfl (fun _ => rfl) (fun _ _ _ => rfl) (fun t => by rw [after_0]; unfold Pipeline.Dat.blockOf blockIn; rw [dat_A]) t d).trans
    (by unfold Pipeline.Dat.fetched Pipeline.Dat.blockOf blockIn; rw [dat_A]; rfl)
theorem before_1 (c : Dev nD) (t : Fin cfg2.N) (d) : (dat W c).before 1 t d = blockIn W c 1 t :=
  ((dat W c).before_in_eq_fetched 1 rfl (fun _ => rfl) (fun _ _ _ => rfl) (fun t => by rw [after_1]; unfold Pipeline.Dat.blockOf blockIn; rw [dat_A]) t d).trans
    (by unfold Pipeline.Dat.fetched Pipeline.Dat.blockOf blockIn; rw [dat_A]; rfl)
theorem before_2 (c : Dev nD) (t : Fin cfg2.N) (d) : (dat W c).before 2 t d = blockIn W c 2 t :=
  ((dat W c).before_in_eq_fetched 2 rfl (fun _ => rfl) (fun _ _ _ => rfl) (fun t => by rw [after_2]; unfold Pipeline.Dat.blockOf blockIn; rw [dat_A]) t d).trans
    (by unfold Pipeline.Dat.fetched Pipeline.Dat.blockOf blockIn; rw [dat_A]; rfl)
theorem before_3 (c : Dev nD) (t : Fin cfg2.N) (d) : (dat W c).before 3 t d = blockIn W c 3 t :=
  ((dat W c).before_in_eq_fetched 3 rfl (fun _ => rfl) (fun _ _ _ => rfl) (fun t => by rw [after_3]; unfold Pipeline.Dat.blockOf blockIn; rw [dat_A]) t d).trans
    (by unfold Pipeline.Dat.fetched Pipeline.Dat.blockOf blockIn; rw [dat_A]; rfl)
theorem before_4 (c : Dev nD) (t : Fin cfg2.N) (d) : (dat W c).before 4 t d = blockIn W c 4 t :=
  ((dat W c).before_in_eq_fetched 4 rfl (fun _ => rfl) (fun _ _ _ => rfl) (fun t => by rw [after_4]; unfold Pipeline.Dat.blockOf blockIn; rw [dat_A]) t d).trans
    (by unfold Pipeline.Dat.fetched Pipeline.Dat.blockOf blockIn; rw [dat_A]; rfl)
theorem before_5 (c : Dev nD) (t : Fin cfg2.N) (d) : (dat W c).before 5 t d = blockIn W c 5 t :=
  ((dat W c).before_in_eq_fetched 5 rfl (fun _ => rfl) (fun _ _ _ => rfl) (fun t => by rw [after_5]; unfold Pipeline.Dat.blockOf blockIn; rw [dat_A]) t d).trans
    (by unfold Pipeline.Dat.fetched Pipeline.Dat.blockOf blockIn; rw [dat_A]; rfl)

/-! ## The body at a point -/

def pointPre (c : Dev nD) (t : Fin cfg2.N) : sProp 𝕄 :=
  iprop((dat W c).Φ t.castSucc ∗ (dat W c).owesAt none t.castSucc
    ∗ (∃ d, owns (SparseCore.T c) (st2_0 t) fullShare ((dat W c).before 0 t d))
    ∗ (∃ d, owns (SparseCore.T c) (st2_1 t) fullShare ((dat W c).before 1 t d))
    ∗ (∃ d, owns (SparseCore.T c) (st2_2 t) fullShare ((dat W c).before 2 t d))
    ∗ (∃ d, owns (SparseCore.T c) (st2_3 t) fullShare ((dat W c).before 3 t d))
    ∗ (∃ d, owns (SparseCore.T c) (st2_4 t) fullShare ((dat W c).before 4 t d))
    ∗ (∃ d, owns (SparseCore.T c) (st2_5 t) fullShare ((dat W c).before 5 t d))
    ∗ (∃ d, owns (SparseCore.T c) (st2_6 t) fullShare ((dat W c).before 6 t d)))

def pointPost (c : Dev nD) (t : Fin cfg2.N) : sProp 𝕄 :=
  iprop((dat W c).Φ t.succ ∗ (dat W c).owesAt none t.succ
    ∗ owns (SparseCore.T c) (st2_0 t) fullShare ((dat W c).after 0 t)
    ∗ owns (SparseCore.T c) (st2_1 t) fullShare ((dat W c).after 1 t)
    ∗ owns (SparseCore.T c) (st2_2 t) fullShare ((dat W c).after 2 t)
    ∗ owns (SparseCore.T c) (st2_3 t) fullShare ((dat W c).after 3 t)
    ∗ owns (SparseCore.T c) (st2_4 t) fullShare ((dat W c).after 4 t)
    ∗ owns (SparseCore.T c) (st2_5 t) fullShare ((dat W c).after 5 t)
    ∗ owns (SparseCore.T c) (st2_6 t) fullShare ((dat W c).after 6 t))

theorem point_body (c : Dev nD) (t : Fin cfg2.N) :
    pointPre W c t ⊢ wp frame (wpE (defs₀ (F := F)) 𝒱₀ (SparseCore.T c) none) Set.univ (bodyAt2 t) (fun _ => pointPost W c t) := by
  unfold pointPre pointPost bodyAt2
  simp only [before_0, before_1, before_2, before_3, before_4, before_5]
  rw [show (dat W c).Φ t.succ = (dat W c).Φ t.castSucc from rfl,
    show (dat W c).owesAt none t.succ = (dat W c).owesAt none t.castSucc from rfl,
    after_0, after_1, after_2, after_3, after_4, after_5, after_out]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (shared_body c Set.univ (grid2.coords t) _ _ _ _ _ _ _ _ _ _ _ _ _ _ (blockIn W c 0 t) (blockIn W c 1 t) (blockIn W c 2 t) (blockIn W c 3 t) (blockIn W c 4 t) (blockIn W c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem row_at (t : Fin cfg2.N) : defs₀ (F := F) .tc cfg2.body (cfg2.bodyArgs t (cfg2.slots t)) = bodyAt2 t := rfl

theorem points (c : Dev nD) : Pipeline.BodyObligation (dat W c) (defs₀ (F := F)) 𝒱₀ none Set.univ := fun t => by
  rw [bigSep_W2, bigSep_W2, row_at]
  exact triple_restated (point_body W c t) rfl .rfl fun _ => .rfl

/-! ## The call as a segment of the host program -/

variable (tab : Vec F S40 .i32) [∀ e, Nonempty (Elt F e)]

def dats : (p : Fin 2) → (c : Dev nD) → Pipeline.Dat τ (Elt F) (HIx 1) ℕ UU ℕ (Pipeline.pin (pcfgs (F := F)) (adm tab) p) c
  | ⟨0, _⟩ => fun c => gdat tab W c
  | ⟨1, _⟩ => fun c => dat W c

/-- The result array after the call. -/
def result (c : Dev nD) : Buf (Elt F) ((SparseCore.T c : Thread nD τ).loc main_v5) := (dat W c).arrAt 6 cfg2.N

variable (W' : (c : Dev nD) → (b : Ref sig .tc) → Buf (Elt F) ((SparseCore.T c : Thread nD τ).loc b))

/-- The core's debts between calls: none, its waits low. -/
abbrev owesLow (c : Dev nD) : sProp 𝕄 := iprop(∃ X, ⌜(K (F := F)).WBelow (SparseCore.T c) X 8⌝ ∗ owes (SparseCore.T c) 0 X)

set_option backward.isDefEq.respectTransparency.types false in
def sharedSeg (hout : ∀ c, W' c main_v5 = result W c) (hne : ∀ c (b : Ref sig .tc), b ≠ main_v5 → W' c b = W c b) :
    Pipeline.RegionSeg (pcfgs (F := F)) (adm tab) (dats W tab) none (defs₀ (F := F)) 𝒱₀ (K (F := F)).L (K (F := F)).lev 1 where
  win := (launch2 (F := F)).win.to₀
  block_pos := (launch2 (F := F)).block_pos
  stage_whole := (launch2 (F := F)).stage_whole
  K := PEmpty
  osem k := k.elim
  ho := Pipeline.OwnSemFacts.none _
  hbody c := (points W c).loose
  hwaits := Pipeline.hwaits_of_owed_zero _ _ _ _ _ _ 1 fun _ _ => rfl
  pre c := iprop(unscopedBufs c (W c) ∗ owesLow c)
  post c := iprop(unscopedBufs c (W' c) ∗ owesLow c)
  X _ := BI.emp
  Y _ := BI.emp
  Z c := iprop(Pipeline.unscopedRest (Ix := HIx 1) (Name := ℕ) (U := UU) (Lvl := ℕ) spec2 c (W c))
  hentry c := by
    rw [Pipeline.ownSems0_none]
    have hsplit := Pipeline.arrays_of_unscopedBufs (p := 1) (pcfgs (F := F)) (adm tab) (dats W tab) (launch2 (F := F)).win (launch2 (F := F)).arr_whole c
      ((dats W tab 1 c).share_full fun _ => rfl) (W c) fun _ => rfl
    iintro ⟨⟨Hub, %X, %hX, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists X; isplitr; · ipureintro; exact fun p hp => Or.inl (hX p hp)
      iexact HO
    isplitr; · iempintro
    iexact Hrest
  hin c := by
    rw [show (dats W tab 1 c).Φ 0 = Pipeline.scopedRest (Ix := HIx 1) (Name := ℕ) (U := UU) (Lvl := ℕ) (Val := Elt F) spec2 c from rfl]
    iintro ⟨-, -, Hr⟩; iexact Hr
  hout c := by
    rw [Pipeline.ownSems0_none, show (dats W tab 1 c).Φ (Fin.last _) = Pipeline.scopedRest (Ix := HIx 1) (Name := ℕ) (U := UU) (Lvl := ℕ) (Val := Elt F) spec2 c from rfl]
    iintro Hr
    isplitr; · iempintro
    isplitr; · iempintro
    iexact Hr
  hexit c := by
    have hjoin := Pipeline.unscopedBufs_of_arrays (p := 1) (pcfgs (F := F)) (adm tab) (Ix := HIx 1) (Name := ℕ) (U := UU) (Lvl := ℕ) (launch2 (F := F)).win (launch2 (F := F)).arr_whole c
      (dats W tab) ((dats W tab 1 c).share_full fun _ => rfl) (W c) (W' c) ((dats W tab 1 c).arrAt · cfg2.N)
      (fun w => by
        fin_cases w
        · exact ((dats W tab 1 c).arrAt_in 0 rfl _).trans (hne c main_v1 (by decide)).symm
        · exact ((dats W tab 1 c).arrAt_in 1 rfl _).trans (hne c main_arg7 (by decide)).symm
        · exact ((dats W tab 1 c).arrAt_in 2 rfl _).trans (hne c main_arg8 (by decide)).symm
        · exact ((dats W tab 1 c).arrAt_in 3 rfl _).trans (hne c main_arg9 (by decide)).symm
        · exact ((dats W tab 1 c).arrAt_in 4 rfl _).trans (hne c main_v4_0 (by decide)).symm
        · exact ((dats W tab 1 c).arrAt_in 5 rfl _).trans (hne c main_v4_1 (by decide)).symm
        · exact (hout c).symm)
      (fun b hb => hne c b fun h => hb (h ▸ Finset.mem_image.mpr ⟨6, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%X, %hX, HO⟩; iexists X; isplitr
    · ipureintro
      intro p hp
      rcases hX hp with h | ⟨w, s, rfl⟩
      · exact h
      · exact Nat.zero_le _
    · iexact HO

end Cert.Proof

end
-- ==== Proof.Experts.lean ====
/-
  The expert rows. After the grouped call, row `r` of its result is the network of the expert that the row's block of 256
  names, wherever the table names one. The rows of the other blocks are never read.
-/
module

public import proofs.«01_k».proof.Proof.Shared
public import Idealize.ShloMosaic.Lib.Pipeline.Value

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (tab : Vec F S40 .i32)
variable (W : (c : Dev nD) → (b : Ref sig .tc) → Buf (Elt F) ((SparseCore.T c : Thread nD τ).loc b))

/-! ## Where a row lies -/

/-- The block of row `r`, and its place there. -/
def blockOf (r : Fin 10240) : Fin grid0.N := ⟨r.val / 256, by have := r.isLt; have := N_0; omega⟩
def placeOf (r : Fin 10240) : Fin 256 := ⟨r.val % 256, Nat.mod_lt _ (by decide)⟩

/-- Row `r` of block `t`. -/
def grow (t : Fin grid0.N) (r : Fin 256) : Fin 10240 := ⟨t.val * 256 + r.val, by have := t.isLt; have := N_0; have := r.isLt; omega⟩

theorem grow_split (r : Fin 10240) : grow (blockOf r) (placeOf r) = r := Fin.ext (by
  show r.val / 256 * 256 + r.val % 256 = r.val; omega)

theorem index_out : ∀ t : Fin grid0.N, cc0_transform_5 (grid0.coords t) (0 : Fin 2) = t.val ∧ cc0_transform_5 (grid0.coords t) (1 : Fin 2) = 0 := by decide +kernel

theorem emb_result (t : Fin (gcfg tab).N) (r : Fin 256) (c : Fin 384) : (((gcfg tab).win 5).blk t).view.emb (ix2 r c) = ix2 (grow t r) c := by
  have h := index_out t
  refine funext fun a => Fin.ext ?_
  match a with
  | ⟨0, _⟩ => exact (((gcfg tab).win 5).rect_emb_val t (ix2 r c) (0 : Fin 2)).trans (congrArg (· * 256 + r.val) h.1)
  | ⟨1, _⟩ => exact ((gcfg tab).win 5).rect_emb_val_of_index_zero t (1 : Fin 2) h.2 (ix2 r c)

/-! ## The word a block names its expert by -/

theorem off_val : ∀ t : Fin grid0.N, k0_off1 (grid0.coords t) 0 = t.val := by decide +kernel

theorem entry_at (t : Fin grid0.N) : entry tab (grid0.coords t) = tab (ix1 ⟨t.val, by have := t.isLt; have := N_0; omega⟩) := by
  unfold entry
  refine congrArg tab (funext fun a => Fin.ext ?_)
  match a with
  | ⟨0, _⟩ => exact (show _ = k0_off1 (grid0.coords t) 0 from by simp [Rect.emb, Rect.unit]).trans (off_val t)

theorem live_of (v : BitVec 32) (h : 0 ≤ v.toInt) : Live v := by
  have e : Scalar.cmpi .sge v 0#32 = 1#1 := by
    simp [Scalar.cmpi, IntOp.cmpi, BitVec.sle_eq_decide, h]
  unfold Live k0_cond1
  simp only [e]
  decide

/-! ## The rows -/

/-- Row `r`, column `c` of the expert rows. -/
def expertRows (htab : TabOK tab) (d : Dev nD) : S10240x384.Idx → Elt F .f32 :=
  fun i => liveOut tab W htab d (blockOf (i 0)) (ix2 (placeOf (i 0)) (i 1))

theorem good_row (htab : TabOK tab) (d : Dev nD) (f : Buf (Elt F) ((SparseCore.T d : Thread nD τ).loc main_v3)) (hf : Good tab W htab d f)
    (r : Fin 10240) (c : Fin 384) (hl : Live (entry tab (grid0.coords (blockOf r)))) : f (ix2 r c) = expertRows tab W htab d (ix2 r c) := by
  have h := hf (blockOf r) hl (ix2 (placeOf r) c)
  rw [emb_result, grow_split] at h
  exact h

theorem good_taken (htab : TabOK tab) (d : Dev nD) (f : S10240x384.Idx → Elt F .f32) (hf : Good tab W htab d f)
    (p : S4096.Idx → BitVec 32) (hp : ∀ j : S4096.Idx, Live (entry tab (grid0.coords (blockOf (rowOf (p j)))))) :
    taken f p = taken (expertRows tab W htab d) p := by
  funext i
  unfold taken
  exact good_row tab W htab d f hf (rowOf (p (ix1 (i 0)))) (i 1) (hp (ix1 (i 0)))

end Cert.Proof

end
-- ==== Proof.Run.lean ====
/-
  The program's run. The TensorCore's arrays are followed through `@main`: the tokens laid out row by row, the
  weights as a column, the grouped call, the two-gather call, the shared-expert call, the result laid out as an image. The grouped call
  leaves some contents with the expert rows in its live blocks; what comes after is followed from whatever it left.
-/
module

public import proofs.«01_k».proof.Proof.Experts

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The arrays through `@main` -/

abbrev ref (b : Ref sig .tc) : DevRef τ sig := Proc.devRef .tc b

abbrev opLay : HloOp τ sig (Elt F) :=
  StableHlo.unary main_arg0 main_v0 ((transpose S4x32x32x384 [0, 2, 3, 1] · transposes_S4x384x32x32_S4x32x32x384_0_2_3_1) : (⟨S4x384x32x32, .f32⟩ : BufTy).Contents (Elt F) → (⟨S4x32x32x384, .f32⟩ : BufTy).Contents (Elt F))
abbrev opRows : HloOp τ sig (Elt F) := StableHlo.reshape main_v0 main_v1 (rfl : (.f32 : EltTy) = .f32) shapeCasts_S4x32x32x384_S4096x384
abbrev opColumn : HloOp τ sig (Elt F) := StableHlo.reshape main_arg6 main_v2 (rfl : (.f32 : EltTy) = .f32) shapeCasts_S10240_S10240x1
abbrev opImage : HloOp τ sig (Elt F) := StableHlo.reshape main_v5 main_v6 (rfl : (.f32 : EltTy) = .f32) shapeCasts_S4096x384_S4x32x32x384
abbrev opBack : HloOp τ sig (Elt F) :=
  StableHlo.unary main_v6 main_v7 ((transpose S4x384x32x32 [0, 3, 1, 2] · transposes_S4x32x32x384_S4x384x32x32_0_3_1_2) : (⟨S4x32x32x384, .f32⟩ : BufTy).Contents (Elt F) → (⟨S4x384x32x32, .f32⟩ : BufTy).Contents (Elt F))

/-- At launch, and at the grouped call. -/
def at0 (d : Dev nD) : Valuation τ sig (Elt F) := fun b => m (d, b)
def at1 (d : Dev nD) : Valuation τ sig (Elt F) :=
  (opColumn (F := F)).result ((opRows (F := F)).result ((opLay (F := F)).result (at0 m d)))

theorem at1_ne (d : Dev nD) {b : Ref sig .tc} (h : b ∉ ({main_v0, main_v1, main_v2} : Finset (Ref sig .tc))) : at1 m d (ref b) = m (d, ref b) := by
  simp only [Finset.mem_insert, Finset.mem_singleton, not_or] at h
  obtain ⟨h0, h1, h2⟩ := h
  unfold at1
  rw [StableHlo.reshape_result_ne _ _ _ _ _ _ _ h2, StableHlo.reshape_result_ne _ _ _ _ _ _ _ h1, StableHlo.unary_result_ne _ _ _ _ _ _ h0]
  rfl

/-- The block table the program is given. -/
def tab : Vec F S40 .i32 := m ((0 : Dev nD), ref main_arg1)

/-- What the launch memory must be: row numbers in range, no block's expert past the last, and the blocks the rows lie in live. -/
structure PreOK : Prop where
  rows : RowsOK m
  table : TabOK (tab m)
  live0 : ∀ (d : Dev nD) (j : S4096.Idx), Live (entry (tab m) (grid0.coords (blockOf (rowOf (m (p0Loc d) j)))))
  live1 : ∀ (d : Dev nD) (j : S4096.Idx), Live (entry (tab m) (grid0.coords (blockOf (rowOf (m (p1Loc d) j)))))

/-- The table is read as it was given. -/
theorem at1_table (d : Dev nD) : at1 m d (ref main_arg1) = tab m := by
  obtain rfl : d = 0 := Subsingleton.elim _ _
  exact at1_ne m 0 (by decide)

/-- The arrays the grouped call reads. -/
abbrev W1 (c : Dev nD) (b : Ref sig .tc) : Buf (Elt F) ((SparseCore.T c : Thread nD τ).loc b) := at1 m c (ref b)

variable (htab : TabOK (tab m))

/-- The expert rows of the program. -/
abbrev rows : (d : Dev nD) → Buf (Elt F) (yLoc d) := fun d => expertRows (tab m) (W1 m) htab d

variable (fs : (d : Dev nD) → Buf (Elt F) (yLoc d))

/-- After the grouped call, which left `fs`; after the two-gather call; after the shared-expert call; at the end. -/
def at2 (d : Dev nD) : Valuation τ sig (Elt F) := Function.update (at1 m d) (ref main_v3) (fs d)
def at3 (d : Dev nD) : Valuation τ sig (Elt F) :=
  Function.update (Function.update (at2 m fs d) (ref main_v4_0) (taken (rows m htab d) (m (p0Loc d)))) (ref main_v4_1) (taken (rows m htab d) (m (p1Loc d)))
def at4 (d : Dev nD) : Valuation τ sig (Elt F) :=
  Function.update (at3 m htab fs d) (ref main_v5) (result (fun c b => at3 m htab fs c (ref b)) d)
def at5 (d : Dev nD) : Valuation τ sig (Elt F) := (opBack (F := F)).result ((opImage (F := F)).result (at4 m htab fs d))

theorem at2_ne (d : Dev nD) {b : Ref sig .tc} (h : b ≠ main_v3) : at2 m fs d (ref b) = at1 m d (ref b) := by
  unfold at2
  rw [Function.update_of_ne (StableHlo.devRef_ne_of_ne h)]
theorem at2_out (d : Dev nD) : at2 m fs d (ref main_v3) = fs d := by
  unfold at2
  rw [Function.update_self]
theorem at3_ne (d : Dev nD) {b : Ref sig .tc} (ha : b ≠ main_v4_0) (hb : b ≠ main_v4_1) : at3 m htab fs d (ref b) = at2 m fs d (ref b) := by
  unfold at3
  rw [Function.update_of_ne (StableHlo.devRef_ne_of_ne hb), Function.update_of_ne (StableHlo.devRef_ne_of_ne ha)]
theorem at3_a (d : Dev nD) : at3 m htab fs d (ref main_v4_0) = taken (rows m htab d) (m (p0Loc d)) := by
  unfold at3
  rw [Function.update_of_ne (by decide), Function.update_self]
theorem at3_b (d : Dev nD) : at3 m htab fs d (ref main_v4_1) = taken (rows m htab d) (m (p1Loc d)) := by
  unfold at3
  rw [Function.update_self]
theorem at4_ne (d : Dev nD) {b : Ref sig .tc} (h : b ≠ main_v5) : at4 m htab fs d (ref b) = at3 m htab fs d (ref b) := by
  unfold at4
  rw [Function.update_of_ne (StableHlo.devRef_ne_of_ne h)]
theorem at4_out (d : Dev nD) : at4 m htab fs d (ref main_v5) = result (fun c b => at3 m htab fs c (ref b)) d := by
  unfold at4
  rw [Function.update_self]
theorem at5_ne (d : Dev nD) {b : Ref sig .tc} (h8 : b ≠ main_v6) (h9 : b ≠ main_v7) : at5 m htab fs d (ref b) = at4 m htab fs d (ref b) := by
  unfold at5
  rw [StableHlo.unary_result_ne _ _ _ _ _ _ h9, StableHlo.reshape_result_ne _ _ _ _ _ _ _ h8]

/-- The arrays of the two-gather call. -/
abbrev callRefs : Finset (DevRef τ sig) := {ref main_v3, ref main_arg10, ref main_arg11, ref main_v4_0, ref main_v4_1}
abbrev ucr : Finset (DevRef τ sig) := Pipeline.ucRefs τ sig

theorem callRefs_sub : callRefs ⊆ ucr := by decide

theorem held_call (d : Dev nD) (V : Valuation τ sig (Elt F)) :
    (StableHlo.held (SparseCore.T d) callRefs V : sProp 𝕄)
      = iprop((yLoc d ↦{fullShare} V (ref main_v3)) ∗ (p0Loc d ↦{fullShare} V (ref main_arg10)) ∗ (p1Loc d ↦{fullShare} V (ref main_arg11))
        ∗ (aLoc d ↦{fullShare} V (ref main_v4_0)) ∗ (bLoc d ↦{fullShare} V (ref main_v4_1))) := by
  unfold StableHlo.held
  rw [SparseCore.bigSep_insert' (by decide), SparseCore.bigSep_insert' (by decide), SparseCore.bigSep_insert' (by decide),
    SparseCore.bigSep_insert' (by decide), bigSep_singleton]

theorem call_in (d : Dev nD) :
    (StableHlo.held (SparseCore.T d) ucr (at2 m fs d) : sProp 𝕄)
      = iprop(five m d (fs d) (m (aLoc d)) (m (bLoc d)) ∗ StableHlo.held (SparseCore.T d) (ucr \ callRefs) (at2 m fs d)) := by
  rw [StableHlo.held_sub_split _ callRefs_sub, held_call, at2_out, at2_ne m fs d (b := main_arg10) (by decide), at2_ne m fs d (b := main_arg11) (by decide),
    at2_ne m fs d (b := main_v4_0) (by decide), at2_ne m fs d (b := main_v4_1) (by decide),
    at1_ne m d (b := main_arg10) (by decide), at1_ne m d (b := main_arg11) (by decide), at1_ne m d (b := main_v4_0) (by decide), at1_ne m d (b := main_v4_1) (by decide)]
  rfl

theorem call_out (d : Dev nD) :
    (StableHlo.held (SparseCore.T d) ucr (at3 m htab fs d) : sProp 𝕄)
      = iprop(five m d (fs d) (taken (rows m htab d) (m (p0Loc d))) (taken (rows m htab d) (m (p1Loc d))) ∗ StableHlo.held (SparseCore.T d) (ucr \ callRefs) (at2 m fs d)) := by
  rw [StableHlo.held_sub_split _ callRefs_sub, held_call, at3_a, at3_b,
    at3_ne m htab fs d (b := main_v3) (by decide) (by decide), at3_ne m htab fs d (b := main_arg10) (by decide) (by decide), at3_ne m htab fs d (b := main_arg11) (by decide) (by decide),
    at2_out, at2_ne m fs d (b := main_arg10) (by decide), at2_ne m fs d (b := main_arg11) (by decide),
    at1_ne m d (b := main_arg10) (by decide), at1_ne m d (b := main_arg11) (by decide),
    StableHlo.held_congr (S := ucr \ callRefs) (V := at3 m htab fs d) (V' := at2 m fs d) _ (fun b hb => ?_)]
  · rfl
  · have hb' := (Finset.mem_sdiff.mp hb).2
    unfold at3
    rw [Function.update_of_ne (fun h => hb' (by rw [h]; decide)), Function.update_of_ne (fun h => hb' (by rw [h]; decide))]

/-! ## The TensorCore calls inside `@main` -/

/-- What the launch deals the two pipelines. -/
def ghost (p : Fin 2) (d : Dev nD) : sProp 𝕄 :=
  iprop(Pipeline.cellsGhost (Pipeline.pin (pcfgs (F := F)) (adm (tab m))) EP p d ∗ Pipeline.toksInit (Pipeline.pin (pcfgs (F := F)) (adm (tab m))) EP p d)

variable [∀ e, Nonempty (Elt F e)]

abbrev gseg : Pipeline.RDat.RegionSeg (pcfgs (F := F)) (adm (tab m)) (grel (tab m) (W1 m) htab) none (defs₀ (F := F)) 𝒱₀ (K (F := F)).L (K (F := F)).lev 0 :=
  groupSeg (tab m) (W1 m) (fun c f b => Function.update (at1 m c) (ref main_v3) f (ref b)) htab (fun c => at1_table m c)
    (fun c f => Function.update_self ..) (fun c f b h => Function.update_of_ne (StableHlo.devRef_ne_of_ne h) ..)

abbrev seg : Pipeline.RegionSeg (pcfgs (F := F)) (adm (tab m)) (dats (fun c b => at3 m htab fs c (ref b)) (tab m)) none (defs₀ (F := F)) 𝒱₀ (K (F := F)).L (K (F := F)).lev 1 :=
  sharedSeg (fun c b => at3 m htab fs c (ref b)) (tab m) (fun c b => at4 m htab fs c (ref b)) (fun c => at4_out m htab fs c) (fun c _ h => at4_ne m htab fs c h)

theorem grouped_call (d : Dev nD) (Φ : PUnit → sProp 𝕄) :
    iprop((iprop(boundary (SparseCore.T d) ∗ (gseg m htab).post d) -∗ Φ ⟨⟩) ∗ boundary (SparseCore.T d) ∗ (gseg m htab).pre d ∗ levAts (K (F := F)).L (K (F := F)).lev ∗ ghost m 0 d)
      ⊢ wp frame (wpE ((K (F := F)).defs (D (F := F))) 𝒱 (SparseCore.T d) none) Set.univ
          (Prog.lift (.customCall (SparseCore.inner (Pipeline.entry 0)) ()) : Prog (TpuEff nD τ sig (Elt F) (SparseCore.Sig (ΛP (F := F)) 1) .tc) PUnit) Φ := by
  have h := Pipeline.RDat.RegionSeg.wp (pcfgs (F := F)) (adm (tab m)) (grel (tab m) (W1 m) htab) none (cellOf_inj (adm (tab m))) EP (defs₀ (F := F)) 𝒱₀ (K (F := F)).L (K (F := F)).lev (gseg m htab) d
    none (fun _ h => nomatch h) (fun x => Prog.ret x) Φ
  unfold ghost
  iintro ⟨Hk, Hb, Hpre, Hl, Hg, Ht⟩
  iapply ((K (F := F)).wp_liftProg (D (F := F)) 𝒱 (SparseCore.T d) Set.univ none (Prog.lift (.customCall (Pipeline.entry 0) ())) Φ)
  iapply h
  isplitl [Hk]
  · iintro H; rw [wp_ret]; imodintro; iapply Hk; iexact H
  isplitl [Hb]; · iexact Hb
  isplitl [Hpre]; · iexact Hpre
  isplitl [Hl]; · iexact Hl
  isplitl [Hg] <;> iassumption

theorem shared_call (d : Dev nD) (Φ : PUnit → sProp 𝕄) :
    iprop((iprop(boundary (SparseCore.T d) ∗ (seg m htab fs).post d) -∗ Φ ⟨⟩) ∗ boundary (SparseCore.T d) ∗ (seg m htab fs).pre d ∗ levAts (K (F := F)).L (K (F := F)).lev ∗ ghost m 1 d)
      ⊢ wp frame (wpE ((K (F := F)).defs (D (F := F))) 𝒱 (SparseCore.T d) none) Set.univ
          (Prog.lift (.customCall (SparseCore.inner (Pipeline.entry 1)) ()) : Prog (TpuEff nD τ sig (Elt F) (SparseCore.Sig (ΛP (F := F)) 1) .tc) PUnit) Φ := by
  have h := Pipeline.RegionSeg.wp (pcfgs (F := F)) (adm (tab m)) (dats (fun c b => at3 m htab fs c (ref b)) (tab m)) none (cellOf_inj (adm (tab m))) EP (defs₀ (F := F)) 𝒱₀ (K (F := F)).L (K (F := F)).lev (seg m htab fs) d
    none (fun _ h => nomatch h) (fun x => Prog.ret x) Φ
  unfold ghost
  iintro ⟨Hk, Hb, Hpre, Hl, Hg, Ht⟩
  iapply ((K (F := F)).wp_liftProg (D (F := F)) 𝒱 (SparseCore.T d) Set.univ none (Prog.lift (.customCall (Pipeline.entry 1) ())) Φ)
  iapply h
  isplitl [Hk]
  · iintro H; rw [wp_ret]; imodintro; iapply Hk; iexact H
  isplitl [Hb]; · iexact Hb
  isplitl [Hpre]; · iexact Hpre
  isplitl [Hl]; · iexact Hl
  isplitl [Hg] <;> iassumption

omit [∀ e, Nonempty (Elt F e)]

/-! ## The launch element of the ghost state -/

def u₀ : UU := (initOf (K (F := F)).hsCells (K (F := F)).hsToks,
  (initOf (Pipeline.cells (Pipeline.pin (pcfgs (F := F)) (adm (tab m))) (cellOf_inj (adm (tab m)))) (Pipeline.launchToks (Pipeline.pin (pcfgs (F := F)) (adm (tab m))) (cellOf_inj (adm (tab m)))), 1))

theorem nothing {I : Type} (s : Finset I) : (bigSep s fun _ => iprop(emp)) = (iprop(emp) : sProp 𝕄) := bigSep_emp_const s

theorem hu₀ : (ownU (u₀ m) : sProp 𝕄)
    ⊢ |={Set.univ}=> iprop(BI.own (EH (initOf (K (F := F)).hsCells (K (F := F)).hsToks)) ∗ (bigSep Finset.univ fun d : Dev nD => iprop(ghost m 0 d ∗ ghost m 1 d))
        ∗ bigSep Finset.univ fun thr : Thread nD τ => bigSep Finset.univ fun q : Fin 1 => (P m (rows m htab)).x q thr) := by
  unfold u₀
  iintro Hu
  ihave H := (ownU_pair (initOf (K (F := F)).hsCells (K (F := F)).hsToks)
    ((initOf (Pipeline.cells (Pipeline.pin (pcfgs (F := F)) (adm (tab m))) (cellOf_inj (adm (tab m)))) (Pipeline.launchToks (Pipeline.pin (pcfgs (F := F)) (adm (tab m))) (cellOf_inj (adm (tab m)))), 1) : UB)) $$ Hu
  icases H with ⟨HH, HB⟩
  ihave H := (own_pair_emb (embR : Emb UB 𝕄) (initOf (Pipeline.cells (Pipeline.pin (pcfgs (F := F)) (adm (tab m))) (cellOf_inj (adm (tab m)))) (Pipeline.launchToks (Pipeline.pin (pcfgs (F := F)) (adm (tab m))) (cellOf_inj (adm (tab m))))) (1 : Counters)) $$ HB
  icases H with ⟨HP, -⟩
  ihave HP := (Entails.of_eq (show BI.own (((Emb.inl : Emb (UR sig nD τ) UB).trans (embR : Emb UB 𝕄)) _) = BI.own (EP (F := F) _) from rfl)) $$ HP
  imod (Pipeline.fund_ghost (Pipeline.pin (pcfgs (F := F)) (adm (tab m))) (EP (F := F)) (cellOf_inj (adm (tab m)))) $$ HP with ⟨Hg, Ht⟩
  imodintro
  isplitl [HH]; · iexact HH
  isplitl [Hg Ht]
  · rw [show (bigSep Finset.univ fun d : Dev nD => iprop(ghost m 0 d ∗ ghost m 1 d)) = (iprop(
        (bigSep Finset.univ fun d : Dev nD => bigSep Finset.univ fun p => Pipeline.cellsGhost (Pipeline.pin (pcfgs (F := F)) (adm (tab m))) (EP (F := F)) p d)
        ∗ bigSep Finset.univ fun d : Dev nD => bigSep Finset.univ fun p => Pipeline.toksInit (Pipeline.pin (pcfgs (F := F)) (adm (tab m))) (EP (F := F)) p d) : sProp 𝕄) from by
        rw [← bigSep_sep']
        exact bigSep_congr fun d _ => by rw [← bigSep_sep', BI.bigSep_fin_two]; rfl]
    isplitl [Hg] <;> iassumption
  rw [show (bigSep Finset.univ fun thr : Thread nD τ => bigSep Finset.univ fun q : Fin 1 => (P m (rows m htab)).x q thr) = bigSep Finset.univ fun _ => iprop(emp) from
    bigSep_congr fun _ _ => bigSep_univ_of_subsingleton (0 : Fin 1), nothing]
  iempintro

/-! ## `@main` on the TensorCore -/

/-- Every array at its final contents. -/
abbrev FIN (d : Dev nD) : sProp 𝕄 := iprop(∃ fs, StableHlo.held (SparseCore.T d) ucr (at5 m htab fs d))

theorem hLay : (opLay (F := F)).bufs ⊆ ucr := show ({ref main_arg0, ref main_v0} : Finset (DevRef τ sig)) ⊆ ucr by decide
theorem hRows : (opRows (F := F)).bufs ⊆ ucr := show ({ref main_v0, ref main_v1} : Finset (DevRef τ sig)) ⊆ ucr by decide
theorem hColumn : (opColumn (F := F)).bufs ⊆ ucr := show ({ref main_arg6, ref main_v2} : Finset (DevRef τ sig)) ⊆ ucr by decide
theorem hImage : (opImage (F := F)).bufs ⊆ ucr := show ({ref main_v5, ref main_v6} : Finset (DevRef τ sig)) ⊆ ucr by decide
theorem hBack : (opBack (F := F)).bufs ⊆ ucr := show ({ref main_v6, ref main_v7} : Finset (DevRef τ sig)) ⊆ ucr by decide

theorem launched (d : Dev nD) : (unscopedBufs d (fun b => m ((SparseCore.T d).loc b)) : sProp 𝕄) = StableHlo.held (SparseCore.T d) ucr (at0 m d) :=
  Pipeline.unscopedBufs_held d (at0 m d)

section
variable [∀ e, Nonempty (Elt F e)]

theorem gseg_pre (d : Dev nD) : (gseg m htab).pre d = iprop(StableHlo.held (SparseCore.T d) ucr (at1 m d) ∗ owesStart d) := by
  rw [← Pipeline.unscopedBufs_held d (at1 m d)]; rfl
theorem gseg_post (d : Dev nD) : (gseg m htab).post d = iprop(∃ f, ⌜Good (tab m) (W1 m) htab d f⌝
    ∗ StableHlo.held (SparseCore.T d) ucr (Function.update (at1 m d) (ref main_v3) f) ∗ owesStart d) := by
  simp only [← Pipeline.unscopedBufs_held d]; rfl
theorem seg_pre (d : Dev nD) : (seg m htab fs).pre d = iprop(StableHlo.held (SparseCore.T d) ucr (at3 m htab fs d) ∗ owesLow d) := by
  rw [← Pipeline.unscopedBufs_held d (at3 m htab fs d)]; rfl
theorem seg_post (d : Dev nD) : (seg m htab fs).post d = iprop(StableHlo.held (SparseCore.T d) ucr (at4 m htab fs d) ∗ owesLow d) := by
  rw [← Pipeline.unscopedBufs_held d (at4 m htab fs d)]; rfl

end

/-- The TensorCore's state before the two-gather call and after it, its debts apart. -/
theorem tcSt_zero (d : Dev nD) : ∃ R : sProp 𝕄, ((K (F := F)).tcSt EH d 0 : sProp 𝕄) = iprop(owesStart d ∗ R) :=
  ⟨_, by unfold SparseCore.Cfg.tcSt; rfl⟩
theorem tcSt_one (d : Dev nD) : ∃ R : sProp 𝕄, ((K (F := F)).tcSt EH d 1 : sProp 𝕄) = iprop(owesLow d ∗ R) :=
  ⟨_, by unfold SparseCore.Cfg.tcSt; rw [(K (F := F)).Otc_end d le_rfl]; rfl⟩

theorem agrees (hpre : PreOK m) (d : Dev nD) (f : Buf (Elt F) (yLoc d)) (hf : Good (tab m) (W1 m) htab d f) : Agrees m (rows m htab) d f :=
  ⟨good_taken (tab m) (W1 m) htab d f hf (m (p0Loc d)) (hpre.live0 d), good_taken (tab m) (W1 m) htab d f hf (m (p1Loc d)) (hpre.live1 d)⟩

theorem hmain [∀ e, Nonempty (Elt F e)] (hpre : PreOK m) (κ : GSem nD τ sig → ℕ) (d : Dev nD) :
    iprop((K (F := F)).ctx EH (P m (rows m htab)) κ ∗ (K (F := F)).tcSt EH d 0 ∗ (K (F := F)).tcRes m ρ d ∗ (ghost m 0 d ∗ ghost m 1 d))
      ⊢ wp frame (wpE ((K (F := F)).defs (D (F := F))) 𝒱 (SparseCore.T d) none) Set.univ (main d)
          fun _ => iprop((K (F := F)).tcSt EH d 1 ∗ FIN m htab d ∗ (K (F := F)).tcEnd d) := by
  obtain ⟨R, hR⟩ := tcSt_one (F := F) d
  obtain ⟨R₀, hR₀⟩ := tcSt_zero (F := F) d
  unfold SparseCore.Cfg.tcRes SparseCore.Cfg.tcEnd
  rw [launched]
  simp only [main, wp_bind, wp_pure]
  iintro ⟨#Hctx, Hst, ⟨Hb, Hheld, Hts, -⟩, Hg0, Hg1⟩
  iapply (StableHlo.wp_hlo_within 𝒱 (SparseCore.T d) none Set.univ (op := opLay) (S := ucr) hLay (V := at0 m d)) $$ [Hb Hheld]
  · isplitl [Hb] <;> iassumption
  iintro ⟨Hb, Hheld⟩
  rw [wp_ret]; imodintro
  iapply (StableHlo.wp_hlo_within 𝒱 (SparseCore.T d) none Set.univ (op := opRows) (S := ucr) hRows (V := (opLay (F := F)).result (at0 m d))) $$ [Hb Hheld]
  · isplitl [Hb] <;> iassumption
  iintro ⟨Hb, Hheld⟩
  rw [wp_ret]; imodintro
  iapply (StableHlo.wp_hlo_within 𝒱 (SparseCore.T d) none Set.univ (op := opColumn) (S := ucr) hColumn (V := (opRows (F := F)).result ((opLay (F := F)).result (at0 m d)))) $$ [Hb Hheld]
  · isplitl [Hb] <;> iassumption
  iintro ⟨Hb, Hheld⟩
  rw [wp_ret]; imodintro
  ihave Hst := (Entails.of_eq hR₀) $$ Hst
  icases Hst with ⟨Ho, HR⟩
  iapply (grouped_call m htab d _)
  isplitr [Hb Hheld Ho Hg0]
  rotate_left
  · isplitl [Hb]; · iexact Hb
    isplitl [Hheld Ho]
    · rw [gseg_pre]
      isplitl [Hheld]
      · iapply (Entails.of_eq (show (StableHlo.held (SparseCore.T d) ucr (at1 m d) : sProp 𝕄) = _ from rfl)); iexact Hheld
      · iexact Ho
    isplitr [Hg0]
    · iapply (SparseCore.Cfg.ctx_levAts κ); iexact Hctx
    · iexact Hg0
  iintro ⟨Hb, Hpost⟩
  ihave Hp := (Entails.of_eq (gseg_post m htab d)) $$ Hpost
  icases Hp with ⟨%f, %hf, Hheld, Ho⟩
  ihave Hst := (Entails.of_eq hR₀.symm) $$ [Ho HR]
  · isplitl [Ho] <;> iassumption
  have hfs : Function.update (fun c => m (yLoc c)) d f d = f := Function.update_self ..
  generalize Function.update (fun c => m (yLoc c)) d f = fs at hfs
  subst hfs
  ihave Hh := (Entails.of_eq (show (StableHlo.held (SparseCore.T d) ucr (Function.update (at1 m d) (ref main_v3) (fs d)) : sProp 𝕄) = _ from call_in m fs d)) $$ Hheld
  icases Hh with ⟨Hfive, Hrest⟩
  ihave Hf := (five_lend m d (fs d) (m (aLoc d)) (m (bLoc d))) $$ Hfive
  icases Hf with ⟨Hlent, Hkept⟩
  iapply ((K (F := F)).wp_run (D (F := F)) 𝒱 (EH := EH) (P := P m (rows m htab)) κ d 0) $$ [Hst Hlent Hkept Hrest Hb Hts Hg1]
  isplitr; · iexact Hctx
  isplitl [Hst]; · iexact Hst
  isplitl [Hlent]; · iapply (st0_of m (rows m htab) d (fs d) (agrees m htab hpre d (fs d) hf)); iexact Hlent
  iintro ⟨Hst, Hdn⟩
  ihave Hfive := (dn0_of m (rows m htab) d (fs d)) $$ [Hkept Hdn]
  · isplitl [Hkept] <;> iassumption
  ihave Hst := (Entails.of_eq (show ((K (F := F)).tcSt EH d ((0 : Fin 1).val + 1) : sProp 𝕄) = _ from hR)) $$ Hst
  icases Hst with ⟨Ho, HR⟩
  iapply (shared_call m htab fs d _)
  isplitr [Hb Hfive Hrest Ho Hg1]
  rotate_left
  · isplitl [Hb]; · iexact Hb
    isplitl [Hfive Hrest Ho]
    · rw [seg_pre, call_out]
      isplitr [Ho]
      · isplitl [Hfive] <;> iassumption
      · iexact Ho
    isplitr [Hg1]
    · iapply (SparseCore.Cfg.ctx_levAts κ); iexact Hctx
    · iexact Hg1
  iintro ⟨Hb, Hpost⟩
  ihave Hp := (Entails.of_eq (seg_post m htab fs d)) $$ Hpost
  icases Hp with ⟨Hheld, Ho⟩
  iapply (StableHlo.wp_hlo_within 𝒱 (SparseCore.T d) none Set.univ (op := opImage) (S := ucr) hImage (V := at4 m htab fs d)) $$ [Hb Hheld]
  · isplitl [Hb] <;> iassumption
  iintro ⟨Hb, Hheld⟩
  rw [wp_ret]; imodintro
  iapply (StableHlo.wp_hlo_within 𝒱 (SparseCore.T d) none Set.univ (op := opBack) (S := ucr) hBack (V := (opImage (F := F)).result (at4 m htab fs d))) $$ [Hb Hheld]
  · isplitl [Hb] <;> iassumption
  iintro ⟨Hb, Hheld⟩
  rw [wp_ret]; imodintro
  imodintro
  isplitl [Ho HR]
  · iapply (Entails.of_eq hR.symm); isplitl [Ho] <;> iassumption
  isplitl [Hheld]; · iexists fs; iexact Hheld
  isplitl [Hb] <;> iassumption

def fq (d : Dev nD) (s' : Phys nD τ sig (Elt F)) : Prop := ∃ fs, ∀ b ∈ ucr, s'.mem.mem (d, b) = at5 m htab fs d b

theorem hfin (d : Dev nD) (s' : Phys nD τ sig (Elt F)) : iprop(FIN m htab d ∗ SI s') ⊢ (⌜fq m htab d s'⌝ : sProp 𝕄) := by
  unfold FIN StableHlo.held
  iintro ⟨⟨%fs, Hh⟩, HSI⟩
  ihave H := (pointsTo_read_all ucr (fun b => ((d : Dev nD), b)) (fun b => at5 m htab fs d b) s') $$ [Hh HSI]
  · isplitl [Hh]; · iexact Hh
    iexact HSI
  icases H with ⟨%h, -⟩
  ipureintro; exact ⟨fs, h⟩

/-! ## The run -/

theorem run_main [∀ e, Nonempty (Elt F e)] (hpre : PreOK m) :
    θ_run (Cert.KernelIdeal.defs (F := F)) (Cert.KernelIdeal.threads (F := F)) ⟨m, fun _ => 0, ρ⟩
      (fun r => (∀ d : Dev nD, ∃ fs, ∀ b ∈ ucr, r.2.mem (d, b) = at5 m htab fs d b) ∧ r.2.sem = fun _ => 0) :=
  SparseCore.Cfg.θ_run_sc_quiescent (K := K (F := F)) (D := D (F := F)) (𝒱 := 𝒱) (EH := EH) (P := P m (rows m htab)) (A := ∅) facts v₀
    (fun q hq => match q with | 0 => nomatch hq)
    (fun q _ => match q with | 0 => tileObl m (rows m htab) facts hpre.rows)
    (fun q _ => match q with | 0 => SparseCore.Cfg.VecSplit.of_plain (vecSplit m (rows m htab)))
    m ρ main (fun d => iprop(ghost m 0 d ∗ ghost m 1 d)) (FIN m htab) (u₀ m) (sep_elim_left.trans (hu₀ m htab)) (hmain m ρ htab hpre) (fq m htab) (hfin m htab) _ (fun _ h hz => ⟨h, hz⟩)

/-- An array no operation of the program writes ends as launched. -/
theorem at5_kept (d : Dev nD) {b : Ref sig .tc} (h : b ∉ ({main_v0, main_v1, main_v2, main_v3, main_v4_0, main_v4_1, main_v5, main_v6, main_v7} : Finset (Ref sig .tc))) :
    at5 m htab fs d (ref b) = m (d, ref b) := by
  simp only [Finset.mem_insert, Finset.mem_singleton, not_or] at h
  obtain ⟨h0, h1, h2, h5, ha, hb, h7, h8, h9⟩ := h
  rw [at5_ne m htab fs d h8 h9, at4_ne m htab fs d h7, at3_ne m htab fs d ha hb, at2_ne m fs d h5, at1_ne m d (by simp only [Finset.mem_insert, Finset.mem_singleton, not_or]; exact ⟨h0, h1, h2⟩)]

/-- The run with what the claims read: the result, the arguments, the semaphores. -/
theorem run_claims [∀ e, Nonempty (Elt F e)] (hpre : PreOK m) :
    θ_run (Cert.KernelIdeal.defs (F := F)) (Cert.KernelIdeal.threads (F := F)) ⟨m, fun _ => 0, ρ⟩
      (fun r => (∀ c : Dev nD, (∃ fs, r.2.mem ((c.tc : Thread nD τ).loc main_v7) = at5 m htab fs c (ref main_v7))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11))
        ∧ r.2.sem = fun _ => 0) :=
  (θ_run Cert.KernelIdeal.defs _ _).mono (fun _ h =>
    ⟨fun c => by
      obtain ⟨fs, hc⟩ := h.1 c
      exact ⟨⟨fs, hc (ref main_v7) (by decide)⟩,
        (hc (ref main_arg0) (by decide)).trans (at5_kept m htab fs c (by decide)),
        (hc (ref main_arg1) (by decide)).trans (at5_kept m htab fs c (by decide)),
        (hc (ref main_arg2) (by decide)).trans (at5_kept m htab fs c (by decide)),
        (hc (ref main_arg3) (by decide)).trans (at5_kept m htab fs c (by decide)),
        (hc (ref main_arg4) (by decide)).trans (at5_kept m htab fs c (by decide)),
        (hc (ref main_arg5) (by decide)).trans (at5_kept m htab fs c (by decide)),
        (hc (ref main_arg6) (by decide)).trans (at5_kept m htab fs c (by decide)),
        (hc (ref main_arg7) (by decide)).trans (at5_kept m htab fs c (by decide)),
        (hc (ref main_arg8) (by decide)).trans (at5_kept m htab fs c (by decide)),
        (hc (ref main_arg9) (by decide)).trans (at5_kept m htab fs c (by decide)),
        (hc (ref main_arg10) (by decide)).trans (at5_kept m htab fs c (by decide)),
        (hc (ref main_arg11) (by decide)).trans (at5_kept m htab fs c (by decide))⟩, h.2⟩)
    (run_main m ρ htab hpre)

end Cert.Proof

end
-- ==== Proof.Values.lean ====
/-
  The values over the extended reals. The shared-expert call's result, row by row: with the tokens `x` and the two arrays
  of taken rows `a`, `b`, entry `(n, c)` of the result is the feed-forward network of row `n` of `x`, plus `a (n, c)`, plus
  `b (n, c)`. The blocks of 512 rows tile the result, so this holds of every entry. The expert rows: entry `(r, c)` is the
  network of row `r` of the copies with the weights of the expert that the row's block names, times the row's weight.
-/
module

public import proofs.«01_k».proof.Proof.Run
public import Idealize.ShloMosaic.Lib.Pipeline.Value
public import Idealize.ShloMosaic.Lib.MatmulPlain
public import Idealize.ShloMosaic.Lib.IdealHost
public import Idealize.ShloMosaic.Lib.ValueLayout
public import Idealize.ShloMosaic.Lib.ValueLayoutCasts
public import Idealize.ShloMosaic.Lib.Pipeline.ValueKit

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-! ## Indices -/

theorem ix2_lib {n k : ℕ} (r : Fin n) (j : Fin k) : ValueIdx.ix2 r j = ix2 r j := funext fun a => match a with
  | ⟨0, _⟩ => rfl
  | ⟨1, _⟩ => rfl

theorem ix2_split {n k : ℕ} (i : (⟨2, ![n, k]⟩ : Shape).Idx) : i = ix2 (i 0) (i 1) := funext fun a => match a with
  | ⟨0, _⟩ => rfl
  | ⟨1, _⟩ => rfl

theorem hz : (![0, 0] : Fin 2 → Nat) = fun _ => 0 := funext fun a => by fin_cases a <;> rfl

/-! ## The feed-forward network of one row -/

/-- The gate and up projections of a row, at hidden unit `k`. -/
def proj (row : Fin 384 → EReal) (w : S384x768.Idx → EReal) (k : Fin 768) : EReal := ∑ i : Fin 384, row i * w (ix2 i k)

/-- `(silu (row · wg) * (row · wu)) · wd` at output column `c`. -/
def ffn (row : Fin 384 → EReal) (wg wu : S384x768.Idx → EReal) (wd : S768x384.Idx → EReal) (c : Fin 384) : EReal :=
  ∑ k : Fin 768, proj row wg k * Ideal.logistic (proj row wg k) * proj row wu k * wd (ix2 k c)

/-- A product into a zero accumulator, at an index. -/
theorem product_at {M K N : ℕ} (L : FVec Ideal ⟨2, ![M, K]⟩ .f32) (R : FVec Ideal ⟨2, ![K, N]⟩ .f32) (r : Fin M) (c : Fin N) :
    FloatOps.matmul (DotDims.plain M K N) none L R (constant ⟨2, ![M, N]⟩ .f32 0x00000000#32) (ix2 r c) = ∑ k : Fin K, L (ix2 r k) * R (ix2 k c) := by
  have h := Ideal.matmul_plain_apply none L R (constant ⟨2, ![M, N]⟩ .f32 0x00000000#32) r c
  simp only [ix2_lib] at h
  rw [h]
  show Ideal.ofBits .f32 0x00000000#32 + _ = _
  rw [Ideal.ofBits_zero_f32, zero_add]

/-- The body's payload at row `r`, column `c` of its block. -/
theorem pay_at (v0 : Vec Ideal S512x384 .f32) (v2 v4 : Vec Ideal S384x768 .f32) (v9 : Vec Ideal S768x384 .f32) (v11 v14 : Vec Ideal S512x384 .f32)
    (r : Fin 512) (c : Fin 384) :
    k2_pay1 v0 v2 v4 v9 v11 v14 (ix2 r c) = ffn (fun i => v0 (ix2 r i)) v2 v4 v9 c + v11 (ix2 r c) + v14 (ix2 r c) := by
  unfold k2_pay1
  simp only [shapeCast_self]
  show FloatOps.matmul (F := Ideal) (φ₁ := .f32) (φ₂ := .f32) (DotDims.plain 512 768 384) none _ _ (constant ⟨2, ![512, 384]⟩ .f32 0x00000000#32) (ix2 r c) + v11 (ix2 r c) + v14 (ix2 r c) = _
  rw [product_at]
  refine congrArg (· + v11 (ix2 r c) + v14 (ix2 r c)) (Finset.sum_congr rfl fun k _ => ?_)
  have hg : matmul (F := Ideal) (φ₁ := .f32) (φ₂ := .f32) dot_S512x384_S384x768_S512x768_1_0_0_1_n_n none v0 v2 (constant S512x768 .f32 0x00000000#32) (ix2 r k) = proj (fun i => v0 (ix2 r i)) v2 k :=
    product_at (M := 512) (K := 384) (N := 768) v0 v2 r k
  have hu : matmul (F := Ideal) (φ₁ := .f32) (φ₂ := .f32) dot_S512x384_S384x768_S512x768_1_0_0_1_n_n none v0 v4 (constant S512x768 .f32 0x00000000#32) (ix2 r k) = proj (fun i => v0 (ix2 r i)) v4 k :=
    product_at (M := 512) (K := 384) (N := 768) v0 v4 r k
  rw [← hg, ← hu]
  rfl

/-! ## The blocks -/

variable (W : (c : Dev nD) → (b : Ref sig .tc) → Buf (Elt Ideal) ((SparseCore.T c : Thread nD τ).loc b))

theorem index_token : ∀ t : Fin grid2.N, win2_6.index t 0 = t.val ∧ win2_6.index t 1 = 0 := by decide +kernel
theorem index_rows : ∀ t : Fin grid2.N, (win2_0.index t 0 = t.val ∧ win2_0.index t 1 = 0) ∧ (win2_4.index t 0 = t.val ∧ win2_4.index t 1 = 0)
    ∧ (win2_5.index t 0 = t.val ∧ win2_5.index t 1 = 0) := by decide +kernel
theorem index_weights : ∀ t : Fin grid2.N, (win2_1.index t 0 = 0 ∧ win2_1.index t 1 = 0) ∧ (win2_2.index t 0 = 0 ∧ win2_2.index t 1 = 0)
    ∧ (win2_3.index t 0 = 0 ∧ win2_3.index t 1 = 0) := by decide +kernel

/-- Row `r` of block `t`. -/
def rowAt (t : Fin grid2.N) (r : Fin 512) : Fin 4096 := ⟨t.val * 512 + r.val, by have := t.isLt; have := N_2; have := r.isLt; omega⟩

theorem emb_out (t : Fin cfg2.N) (r : Fin 512) (c : Fin 384) : ((cfg2.win 6).blk t).view.emb (ix2 r c) = ix2 (rowAt t r) c := by
  have h := index_token t
  refine funext fun a => Fin.ext ?_
  match a with
  | ⟨0, _⟩ => exact (win2_6.rect_emb_val t (ix2 r c) 0).trans (by rw [h.1]; rfl)
  | ⟨1, _⟩ => exact win2_6.rect_emb_val_of_index_zero t 1 h.2 (ix2 r c)

theorem emb_0 (t : Fin cfg2.N) (r : Fin 512) (c : Fin 384) : ((cfg2.win 0).blk t).view.emb (ix2 r c) = ix2 (rowAt t r) c := by
  have h := (index_rows t).1
  refine funext fun a => Fin.ext ?_
  match a with
  | ⟨0, _⟩ => exact (win2_0.rect_emb_val t (ix2 r c) 0).trans (by rw [h.1]; rfl)
  | ⟨1, _⟩ => exact win2_0.rect_emb_val_of_index_zero t 1 h.2 (ix2 r c)
theorem emb_4 (t : Fin cfg2.N) (r : Fin 512) (c : Fin 384) : ((cfg2.win 4).blk t).view.emb (ix2 r c) = ix2 (rowAt t r) c := by
  have h := (index_rows t).2.1
  refine funext fun a => Fin.ext ?_
  match a with
  | ⟨0, _⟩ => exact (win2_4.rect_emb_val t (ix2 r c) 0).trans (by rw [h.1]; rfl)
  | ⟨1, _⟩ => exact win2_4.rect_emb_val_of_index_zero t 1 h.2 (ix2 r c)
theorem emb_5 (t : Fin cfg2.N) (r : Fin 512) (c : Fin 384) : ((cfg2.win 5).blk t).view.emb (ix2 r c) = ix2 (rowAt t r) c := by
  have h := (index_rows t).2.2
  refine funext fun a => Fin.ext ?_
  match a with
  | ⟨0, _⟩ => exact (win2_5.rect_emb_val t (ix2 r c) 0).trans (by rw [h.1]; rfl)
  | ⟨1, _⟩ => exact win2_5.rect_emb_val_of_index_zero t 1 h.2 (ix2 r c)

theorem block_0 (d : Dev nD) (t : Fin cfg2.N) (r : Fin 512) (c : Fin 384) : blockIn W d 0 t (ix2 r c) = W d main_v1 (ix2 (rowAt t r) c) := by
  unfold blockIn; rw [View.read_apply, emb_0]; rfl
theorem block_4 (d : Dev nD) (t : Fin cfg2.N) (r : Fin 512) (c : Fin 384) : blockIn W d 4 t (ix2 r c) = W d main_v4_0 (ix2 (rowAt t r) c) := by
  unfold blockIn; rw [View.read_apply, emb_4]; rfl
theorem block_5 (d : Dev nD) (t : Fin cfg2.N) (r : Fin 512) (c : Fin 384) : blockIn W d 5 t (ix2 r c) = W d main_v4_1 (ix2 (rowAt t r) c) := by
  unfold blockIn; rw [View.read_apply, emb_5]; rfl

theorem block_1 (d : Dev nD) (t : Fin cfg2.N) : blockIn W d 1 t = W d main_arg7 := by
  have h := (index_weights t).1
  funext y
  have e : ((cfg2.win 1).blk t).view.emb y = y := funext fun a => Fin.ext (match a with
    | ⟨0, _⟩ => win2_1.rect_emb_val_of_index_zero t 0 h.1 y
    | ⟨1, _⟩ => win2_1.rect_emb_val_of_index_zero t 1 h.2 y)
  unfold blockIn; rw [View.read_apply, e]; rfl
theorem block_2 (d : Dev nD) (t : Fin cfg2.N) : blockIn W d 2 t = W d main_arg8 := by
  have h := (index_weights t).2.1
  funext y
  have e : ((cfg2.win 2).blk t).view.emb y = y := funext fun a => Fin.ext (match a with
    | ⟨0, _⟩ => win2_2.rect_emb_val_of_index_zero t 0 h.1 y
    | ⟨1, _⟩ => win2_2.rect_emb_val_of_index_zero t 1 h.2 y)
  unfold blockIn; rw [View.read_apply, e]; rfl
theorem block_3 (d : Dev nD) (t : Fin cfg2.N) : blockIn W d 3 t = W d main_arg9 := by
  have h := (index_weights t).2.2
  funext y
  have e : ((cfg2.win 3).blk t).view.emb y = y := funext fun a => Fin.ext (match a with
    | ⟨0, _⟩ => win2_3.rect_emb_val_of_index_zero t 0 h.1 y
    | ⟨1, _⟩ => win2_3.rect_emb_val_of_index_zero t 1 h.2 y)
  unfold blockIn; rw [View.read_apply, e]; rfl

/-! ## The call's result -/

theorem blocks_apart : ∀ t t' : Fin cfg2.N, (cfg2.win 6).flush t = true → (cfg2.win 6).flush t' = true → t ≠ t' →
    Disjoint ((cfg2.win 6).blk t).view.set ((cfg2.win 6).blk t').view.set :=
  fun t t' _ _ hne => (cfg2.win 6).disjoint_blk fun h =>
    hne ((by decide +kernel : ∀ t t' : Fin grid2.N, win2_6.index t = win2_6.index t' → t = t') t t' h)

theorem blockOut_at (x0 : Vec Ideal S512x384 .f32) (x1 x2 : Vec Ideal S384x768 .f32) (x3 : Vec Ideal S768x384 .f32) (x4 x5 : Vec Ideal S512x384 .f32)
    (r : Fin 512) (c : Fin 384) :
    blockOut x0 x1 x2 x3 x4 x5 (ix2 r c) = ffn (fun i => x0 (ix2 r i)) x1 x2 x3 c + x4 (ix2 r c) + x5 (ix2 r c) := by
  unfold blockOut
  rw [View.canon_unit_zero hz, View.ld_unit_zero hz, View.ld_unit_zero hz, View.ld_unit_zero hz, View.ld_unit_zero hz, View.ld_unit_zero hz, View.ld_unit_zero hz]
  exact pay_at x0 x1 x2 x3 x4 x5 r c

theorem flushed_out (d : Dev nD) (t : Fin cfg2.N) : (dat W d).flushed 6 t
    = (cfg2.win 6).cut (grid2.coords t) (blockOut (blockIn W d 0 t) (blockIn W d 1 t) (blockIn W d 2 t) (blockIn W d 3 t) (blockIn W d 4 t) (blockIn W d 5 t)) := by
  show (cfg2.win 6).cut (grid2.coords t) ((dat W d).after 6 t) = _
  rw [after_out]

theorem flushed_at (d : Dev nD) (t : Fin cfg2.N) (r : Fin 512) (c : Fin 384) : (dat W d).flushed 6 t (ix2 r c)
    = ffn (fun i => W d main_v1 (ix2 (rowAt t r) i)) (W d main_arg7) (W d main_arg8) (W d main_arg9) c
      + W d main_v4_0 (ix2 (rowAt t r) c) + W d main_v4_1 (ix2 (rowAt t r) c) := by
  rw [flushed_out, block_1, block_2, block_3]
  refine (blockOut_at (blockIn W d 0 t) (W d main_arg7) (W d main_arg8) (W d main_arg9) (blockIn W d 4 t) (blockIn W d 5 t) r c).trans ?_
  simp only [block_0, block_4, block_5]

theorem result_block (d : Dev nD) (t : Fin cfg2.N) (r : Fin 512) (c : Fin 384) :
    result W d (ix2 (rowAt t r) c) = ffn (fun i => W d main_v1 (ix2 (rowAt t r) i)) (W d main_arg7) (W d main_arg8) (W d main_arg9) c
      + W d main_v4_0 (ix2 (rowAt t r) c) + W d main_v4_1 (ix2 (rowAt t r) c) := by
  rw [← flushed_at, ← emb_out]
  exact (dat W d).arrAt_emb_eq_flushed 6 blocks_apart t (flush2_6 t) (ix2 r c)

theorem result_at (d : Dev nD) (n : Fin 4096) (c : Fin 384) :
    result W d (ix2 n c) = ffn (fun k => W d main_v1 (ix2 n k)) (W d main_arg7) (W d main_arg8) (W d main_arg9) c + W d main_v4_0 (ix2 n c) + W d main_v4_1 (ix2 n c) := by
  have hn : n.val < 4096 := n.isLt
  obtain ⟨t, r, rfl⟩ : ∃ (t : Fin grid2.N) (r : Fin 512), n = rowAt t r :=
    ⟨⟨n.val / 512, by rw [N_2]; omega⟩, ⟨n.val % 512, by omega⟩, Fin.ext (by show n.val = n.val / 512 * 512 + n.val % 512; omega)⟩
  exact result_block W d t r c

/-! ## The expert rows -/

/-- Expert `e`'s matrix. -/
def slice {E a b : ℕ} (w : (⟨3, ![E, a, b]⟩ : Shape).Idx → EReal) (e : Fin E) : (⟨2, ![a, b]⟩ : Shape).Idx → EReal := fun i => w (ValueIdx.ix3 e (i 0) (i 1))

theorem slice_cast {a b : ℕ} (w : (⟨3, ![1, a, b]⟩ : Shape).Idx → EReal) (h : (⟨3, ![1, a, b]⟩ : Shape).ShapeCasts ⟨2, ![a, b]⟩) : shapeCast ⟨2, ![a, b]⟩ w h = slice w 0 := by
  funext i
  obtain ⟨p, q, rfl⟩ : ∃ (p : Fin a) (q : Fin b), i = ix2 p q := ⟨i 0, i 1, ix2_split i⟩
  have e := ValueIdx.shapeCast_1ab_ab_apply w h p q
  rw [ix2_lib] at e
  exact e

theorem wide_at (v : Vec Ideal S256x1 .f32) (r : Fin 256) (c : Fin 384) :
    broadcastTo S256x384 v broadcasts_S256x1_S256x384 (ix2 r c) = v (ix2 r 0) :=
  broadcastTo_apply v broadcasts_S256x1_S256x384 (ix2 r c) (ix2 r 0) fun a => match a with
    | ⟨0, _⟩ => by show r.val = if (256 : Nat) = 1 then 0 else r.val; rw [if_neg (by decide)]
    | ⟨1, _⟩ => by show (0 : Nat) = if (1 : Nat) = 1 then 0 else c.val; rw [if_pos rfl]

/-- The body's payload at row `r`, column `c` of its block. -/
theorem group_pay_at (v8 : Vec Ideal S256x384 .f32) (v10 v14 : Vec Ideal S1x384x768 .f32) (v21 : Vec Ideal S1x768x384 .f32) (v24 : Vec Ideal S256x1 .f32)
    (r : Fin 256) (c : Fin 384) :
    k0_pay1 v8 v10 v14 v21 v24 (ix2 r c) = ffn (fun i => v8 (ix2 r i)) (slice v10 0) (slice v14 0) (slice v21 0) c * v24 (ix2 r 0) := by
  unfold k0_pay1
  simp only [shapeCast_self]
  rw [show shapeCast S384x768 v10 shapeCasts_S1x384x768_S384x768 = slice v10 0 from slice_cast v10 _,
    show shapeCast S384x768 v14 shapeCasts_S1x384x768_S384x768 = slice v14 0 from slice_cast v14 _,
    show shapeCast S768x384 v21 shapeCasts_S1x768x384_S768x384 = slice v21 0 from slice_cast v21 _]
  show FloatOps.matmul (F := Ideal) (φ₁ := .f32) (φ₂ := .f32) (DotDims.plain 256 768 384) none _ _ (constant ⟨2, ![256, 384]⟩ .f32 0x00000000#32) (ix2 r c)
    * broadcastTo S256x384 v24 broadcasts_S256x1_S256x384 (ix2 r c) = _
  rw [product_at, wide_at]
  refine congrArg (· * v24 (ix2 r 0)) (Finset.sum_congr rfl fun k _ => ?_)
  have hg : matmul (F := Ideal) (φ₁ := .f32) (φ₂ := .f32) dot_S256x384_S384x768_S256x768_1_0_0_1_n_n none v8 (slice v10 0) (constant S256x768 .f32 0x00000000#32) (ix2 r k) = proj (fun i => v8 (ix2 r i)) (slice v10 0) k :=
    product_at (M := 256) (K := 384) (N := 768) v8 (slice v10 0) r k
  have hu : matmul (F := Ideal) (φ₁ := .f32) (φ₂ := .f32) dot_S256x384_S384x768_S256x768_1_0_0_1_n_n none v8 (slice v14 0) (constant S256x768 .f32 0x00000000#32) (ix2 r k) = proj (fun i => v8 (ix2 r i)) (slice v14 0) k :=
    product_at (M := 256) (K := 384) (N := 768) v8 (slice v14 0) r k
  rw [← hg, ← hu]
  rfl

/-- The expert a word names. -/
def expertOf (v : BitVec 32) (hv : v.toInt < 8) : Fin 8 := ⟨(Scalar.maxsi v 0#32).toNat, maxsi_lt v hv⟩

theorem slice_ld3 (v : BitVec 32) (hv : v.toInt < 8) (x : Vec Ideal S8x384x768 .f32) :
    slice (View.ld x (Rect.unit (s := S8x384x768) (k0_off3 v) S1x384x768.size (off3_le v hv))) 0 = slice x (expertOf v hv) := by
  funext i
  exact View.ld_unit_apply_of x _ _ _ _ _ fun a => match a with
    | ⟨0, _⟩ => rfl
    | ⟨1, _⟩ => (Nat.zero_add _).symm
    | ⟨2, _⟩ => (Nat.zero_add _).symm
theorem slice_ld4 (v : BitVec 32) (hv : v.toInt < 8) (x : Vec Ideal S8x768x384 .f32) :
    slice (View.ld x (Rect.unit (s := S8x768x384) (k0_off4 v) S1x768x384.size (off4_le v hv))) 0 = slice x (expertOf v hv) := by
  funext i
  exact View.ld_unit_apply_of x _ _ _ _ _ fun a => match a with
    | ⟨0, _⟩ => rfl
    | ⟨1, _⟩ => (Nat.zero_add _).symm
    | ⟨2, _⟩ => (Nat.zero_add _).symm

theorem groupOut_at (v : BitVec 32) (hv : v.toInt < 8) (x0 : Vec Ideal S256x384 .f32) (x1 x2 : Vec Ideal S8x384x768 .f32) (x3 : Vec Ideal S8x768x384 .f32) (x4 : Vec Ideal S256x1 .f32)
    (r : Fin 256) (c : Fin 384) : groupOut v hv x0 x1 x2 x3 x4 (ix2 r c)
      = ffn (fun i => x0 (ix2 r i)) (slice x1 (expertOf v hv)) (slice x2 (expertOf v hv)) (slice x3 (expertOf v hv)) c * x4 (ix2 r 0) := by
  unfold groupOut
  rw [View.canon_unit_zero hz, View.ld_unit_zero hz, View.ld_unit_zero hz]
  refine (group_pay_at x0 _ _ _ x4 r c).trans ?_
  rw [slice_ld3, slice_ld3, slice_ld4]

variable (tab : Vec Ideal S40 .i32)

theorem index_in : ∀ t : Fin grid0.N, (cc0_transform_0 (grid0.coords t) (0 : Fin 2) = t.val ∧ cc0_transform_0 (grid0.coords t) (1 : Fin 2) = 0)
    ∧ (cc0_transform_4 (grid0.coords t) (0 : Fin 2) = t.val ∧ cc0_transform_4 (grid0.coords t) (1 : Fin 2) = 0) := by decide +kernel
theorem index_experts : ∀ t : Fin grid0.N, (∀ a : Fin 3, cc0_transform_1 (grid0.coords t) a = 0) ∧ (∀ a : Fin 3, cc0_transform_2 (grid0.coords t) a = 0)
    ∧ (∀ a : Fin 3, cc0_transform_3 (grid0.coords t) a = 0) := by decide +kernel

theorem emb_copies (t : Fin (gcfg tab).N) (r : Fin 256) (c : Fin 384) : (((gcfg tab).win 0).blk t).view.emb (ix2 r c) = ix2 (grow t r) c := by
  have h := (index_in t).1
  refine funext fun a => Fin.ext ?_
  match a with
  | ⟨0, _⟩ => exact (((gcfg tab).win 0).rect_emb_val t (ix2 r c) (0 : Fin 2)).trans (congrArg (· * 256 + r.val) h.1)
  | ⟨1, _⟩ => exact ((gcfg tab).win 0).rect_emb_val_of_index_zero t (1 : Fin 2) h.2 (ix2 r c)
theorem emb_weights (t : Fin (gcfg tab).N) (r : Fin 256) : (((gcfg tab).win 4).blk t).view.emb (ix2 r (0 : Fin 1)) = ix2 (grow t r) (0 : Fin 1) := by
  have h := (index_in t).2
  refine funext fun a => Fin.ext ?_
  match a with
  | ⟨0, _⟩ => exact (((gcfg tab).win 4).rect_emb_val t (ix2 r (0 : Fin 1)) (0 : Fin 2)).trans (congrArg (· * 256 + r.val) h.1)
  | ⟨1, _⟩ => exact ((gcfg tab).win 4).rect_emb_val_of_index_zero t (1 : Fin 2) h.2 (ix2 r (0 : Fin 1))

theorem gblock_0 (d : Dev nD) (t : Fin (gcfg tab).N) (r : Fin 256) (c : Fin 384) : gblock tab W d 0 t (ix2 r c) = W d main_arg2 (ix2 (grow t r) c) := by
  exact congrArg (W d main_arg2) (emb_copies tab t r c)
theorem gblock_4 (d : Dev nD) (t : Fin (gcfg tab).N) (r : Fin 256) : gblock tab W d 4 t (ix2 r (0 : Fin 1)) = W d main_v2 (ix2 (grow t r) (0 : Fin 1)) := by
  exact congrArg (W d main_v2) (emb_weights tab t r)
theorem gblock_1 (d : Dev nD) (t : Fin (gcfg tab).N) : gblock tab W d 1 t = W d main_arg3 := by
  have h := (index_experts t).1
  funext y
  have e : (((gcfg tab).win 1).blk t).view.emb y = y := funext fun a => Fin.ext (match a with
    | ⟨0, _⟩ => ((gcfg tab).win 1).rect_emb_val_of_index_zero t (0 : Fin 3) (h 0) y
    | ⟨1, _⟩ => ((gcfg tab).win 1).rect_emb_val_of_index_zero t (1 : Fin 3) (h 1) y
    | ⟨2, _⟩ => ((gcfg tab).win 1).rect_emb_val_of_index_zero t (2 : Fin 3) (h 2) y)
  unfold gblock; rw [View.read_apply, e]; rfl
theorem gblock_2 (d : Dev nD) (t : Fin (gcfg tab).N) : gblock tab W d 2 t = W d main_arg4 := by
  have h := (index_experts t).2.1
  funext y
  have e : (((gcfg tab).win 2).blk t).view.emb y = y := funext fun a => Fin.ext (match a with
    | ⟨0, _⟩ => ((gcfg tab).win 2).rect_emb_val_of_index_zero t (0 : Fin 3) (h 0) y
    | ⟨1, _⟩ => ((gcfg tab).win 2).rect_emb_val_of_index_zero t (1 : Fin 3) (h 1) y
    | ⟨2, _⟩ => ((gcfg tab).win 2).rect_emb_val_of_index_zero t (2 : Fin 3) (h 2) y)
  unfold gblock; rw [View.read_apply, e]; rfl
theorem gblock_3 (d : Dev nD) (t : Fin (gcfg tab).N) : gblock tab W d 3 t = W d main_arg5 := by
  have h := (index_experts t).2.2
  funext y
  have e : (((gcfg tab).win 3).blk t).view.emb y = y := funext fun a => Fin.ext (match a with
    | ⟨0, _⟩ => ((gcfg tab).win 3).rect_emb_val_of_index_zero t (0 : Fin 3) (h 0) y
    | ⟨1, _⟩ => ((gcfg tab).win 3).rect_emb_val_of_index_zero t (1 : Fin 3) (h 1) y
    | ⟨2, _⟩ => ((gcfg tab).win 3).rect_emb_val_of_index_zero t (2 : Fin 3) (h 2) y)
  unfold gblock; rw [View.read_apply, e]; rfl

/-- Row `r`'s expert. -/
def expertAt (htab : TabOK tab) (r : Fin 10240) : Fin 8 := expertOf (entry tab (grid0.coords (blockOf r))) (htab _)

theorem liveOut_at (htab : TabOK tab) (d : Dev nD) (t : Fin (gcfg tab).N) (r : Fin 256) (c : Fin 384) : liveOut tab W htab d t (ix2 r c)
    = ffn (fun i => W d main_arg2 (ix2 (grow t r) i)) (slice (W d main_arg3) (expertOf (entry tab (grid0.coords t)) (htab _))) (slice (W d main_arg4) (expertOf (entry tab (grid0.coords t)) (htab _)))
      (slice (W d main_arg5) (expertOf (entry tab (grid0.coords t)) (htab _))) c * W d main_v2 (ix2 (grow t r) (0 : Fin 1)) := by
  unfold liveOut
  rw [gblock_1, gblock_2, gblock_3]
  refine (groupOut_at (entry tab (grid0.coords t)) (htab _) (gblock tab W d 0 t) (W d main_arg3) (W d main_arg4) (W d main_arg5) (gblock tab W d 4 t) r c).trans ?_
  rw [gblock_4]
  simp only [gblock_0]

theorem expertRows_at (htab : TabOK tab) (d : Dev nD) (r : Fin 10240) (c : Fin 384) : expertRows tab W htab d (ix2 r c)
    = ffn (fun i => W d main_arg2 (ix2 r i)) (slice (W d main_arg3) (expertAt tab htab r)) (slice (W d main_arg4) (expertAt tab htab r))
      (slice (W d main_arg5) (expertAt tab htab r)) c * W d main_v2 (ix2 r (0 : Fin 1)) := by
  refine (liveOut_at W tab htab d (blockOf r) (placeOf r) c).trans ?_
  rw [grow_split]
  rfl

end Cert.Proof

end
-- ==== Proof.Printings.lean ====
/-
  The program is printed twice, once for the word-level claims and once for the ideal ones. The two printings are one
  program: here as a function of the pipelines' configurations and of the table of bodies, which are equal one by one.
-/
module

public import proofs.«01_k».proof.Proof.Run
public import proofs.«01_k».proof.Proof.Gen.Kernel

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The configurations of the two TensorCore calls. -/
abbrev Cfgs (F : FTy → Type) [FloatOps F] : Type := Fin 2 → Pipeline.PCfg sig Λ₀ (Elt F)

/-- The SparseCore call, over any configurations. -/
abbrev scOf (pcs : Cfgs F) : SparseCore.Cfg τ sig (Pipeline.Sig Λ₀ (Fin 2) fun p => (pcs p).Adm) 1 where
  kind := scKind
  nCore := scNCore
  nSub := scNSub
  hkind := hscKind
  hCore := hscCore
  hSub := hscSub
  body := fun | 0 => Pipeline.kernel 1 | ⟨_ + 1, h⟩ => absurd h (Nat.not_lt.2 (Nat.le_add_left _ _))
  args := fun | 0 => ⟨⟩ | ⟨_ + 1, h⟩ => absurd h (Nat.not_lt.2 (Nat.le_add_left _ _))
  start := sc_start
  done := sc_done
  go := sc_go
  taskDone := sc_taskDone

/-- The table of bodies, over any configurations. -/
abbrev defsOf (pcs : Cfgs F) (D₀ : Defs nD τ sig (Elt F) Λ₀) : Defs nD τ sig (Elt F) (SparseCore.Sig (Pipeline.Sig Λ₀ (Fin 2) fun p => (pcs p).Adm) 1) :=
  (scOf pcs).defs (Pipeline.defs pcs D₀)

/-- The host program, over any configurations. -/
def mainOf (pcs : Cfgs F) : Dev nD → Prog (TpuEff nD τ sig (Elt F) (SparseCore.Sig (Pipeline.Sig Λ₀ (Fin 2) fun p => (pcs p).Adm) 1) .tc) PUnit := fun d => do
  hlo rfl opLay (fun _ => .ret ⟨⟩)
  hlo rfl opRows (fun _ => .ret ⟨⟩)
  hlo rfl opColumn (fun _ => .ret ⟨⟩)
  Prog.lift (.customCall (SparseCore.inner (Pipeline.entry 0)) ())
  (scOf pcs).run d 0
  Prog.lift (.customCall (SparseCore.inner (Pipeline.entry 1)) ())
  hlo rfl opImage (fun _ => .ret ⟨⟩)
  hlo rfl opBack (fun _ => .ret ⟨⟩)
  pure ⟨⟩

/-- A run of the program over given configurations and bodies, as the post-conditions it meets. -/
abbrev Runs (pcs : Cfgs F) (D₀ : Defs nD τ sig (Elt F) Λ₀) := θ_run (defsOf pcs D₀) ((scOf pcs).threads (mainOf pcs))

theorem main_ideal : mainOf (F := F) Cert.KernelIdeal.pcfgs = Cert.KernelIdeal.main (F := F) := by exact rfl
set_option maxHeartbeats 4000000 in
theorem main_word : mainOf (F := Bits) Cert.Kernel.pcfgs = Cert.Kernel.main (F := Bits) := by
  funext d
  unfold mainOf Cert.Kernel.main
  exact rfl
set_option maxHeartbeats 1000000 in
theorem sc_word : scOf (F := Bits) Cert.Kernel.pcfgs = Cert.Kernel.sc (F := Bits) := by exact rfl
set_option maxHeartbeats 1000000 in
theorem defs_word : defsOf (F := Bits) Cert.Kernel.pcfgs Cert.Kernel.defs₀ = Cert.Kernel.defs (F := Bits) := by
  unfold Cert.Kernel.defs
  exact congrArg (fun S => SparseCore.Cfg.defs S (Pipeline.defs Cert.Kernel.pcfgs Cert.Kernel.defs₀)) sc_word
theorem cfgs_word : Cert.Kernel.pcfgs (F := Bits) = Cert.KernelIdeal.pcfgs (F := Bits) := by exact rfl

set_option maxHeartbeats 4000000 in
theorem threads_word : (scOf (F := Bits) Cert.Kernel.pcfgs).threads (mainOf (F := Bits) Cert.Kernel.pcfgs) = Cert.Kernel.threads (F := Bits) :=
  (congrArg (fun S => SparseCore.Cfg.threads S (mainOf (F := Bits) Cert.Kernel.pcfgs)) sc_word).trans (congrArg (fun M => (Cert.Kernel.sc (F := Bits)).threads M) main_word)

set_option maxHeartbeats 1000000 in
/-- The two printings of the program are one program: their bodies on the TensorCore, label by label, … -/
theorem bodies_tc (ℓ) (a) : Cert.Kernel.defs₀ (F := Bits) .tc ℓ a = Cert.KernelIdeal.defs₀ (F := Bits) .tc ℓ a := match ℓ, a with
  | 0, _ => rfl
  | 1, _ => rfl
  | 2, _ => rfl
set_option maxHeartbeats 1000000 in
/-- … on a SparseCore's scalar unit, … -/
theorem bodies_scalar (c) (ℓ) (a) : Cert.Kernel.defs₀ (F := Bits) (.scScalar c) ℓ a = Cert.KernelIdeal.defs₀ (F := Bits) (.scScalar c) ℓ a := match ℓ, a with
  | 0, _ => rfl
  | 1, _ => rfl
  | 2, _ => rfl
set_option maxHeartbeats 1000000 in
/-- … and on its tiles; and so their tables. -/
theorem bodies_tile (c s) (ℓ) (a) : Cert.Kernel.defs₀ (F := Bits) (.scVector c s) ℓ a = Cert.KernelIdeal.defs₀ (F := Bits) (.scVector c s) ℓ a := match ℓ, a with
  | 0, _ => rfl
  | 1, _ => rfl
  | 2, _ => rfl
theorem same_bodies : Cert.Kernel.defs₀ (F := Bits) = Cert.KernelIdeal.defs₀ (F := Bits) := by
  funext p ℓ a
  cases p
  · exact bodies_tc ℓ a
  · exact bodies_scalar _ ℓ a
  · exact bodies_tile _ _ ℓ a

theorem runs_eq {pcs pcs' : Cfgs F} (e : pcs = pcs') {D D' : Defs nD τ sig (Elt F) Λ₀} (e' : D = D') {s Φ} (h : Runs pcs' D' s Φ) : Runs pcs D s Φ := by
  subst e e'; exact h

theorem runs_ideal {s Φ} (h : θ_run (Cert.KernelIdeal.defs (F := F)) (Cert.KernelIdeal.threads (F := F)) s Φ) : Runs (F := F) Cert.KernelIdeal.pcfgs Cert.KernelIdeal.defs₀ s Φ := h

theorem run_congr {Λ : Labels} {D D' : Defs nD τ sig (Elt F) Λ} (e : D = D') {t t' : (c : Thread nD τ) → Prog (TpuEff nD τ sig (Elt F) Λ c.2) PUnit} (e' : t = t') {s Φ}
    (h : θ_run D t s Φ) : θ_run D' t' s Φ := by
  subst e e'; exact h

set_option maxHeartbeats 4000000 in
/-- What one printing's run satisfies, the other's does. -/
theorem runs_word {s Φ} (h : θ_run (Cert.KernelIdeal.defs (F := Bits)) (Cert.KernelIdeal.threads (F := Bits)) s Φ) :
    θ_run (Cert.Kernel.defs (F := Bits)) (Cert.Kernel.threads (F := Bits)) s Φ := by
  have h' : Runs (F := Bits) Cert.Kernel.pcfgs Cert.Kernel.defs₀ s Φ := runs_eq cfgs_word same_bodies (runs_ideal h)
  exact run_congr defs_word threads_word h'

end Cert.Proof

end
-- ==== Proof.Claims.lean ====
/-
  The claims. The precondition gives row numbers below the table's height, block experts below 8, and an expert for every
  block that a row number lies in. The reference computes every token's row through every expert and keeps, by a one-hot
  factor, the term of the row's own expert; the kernel computes each block of rows with its own expert alone and then takes
  rows. The one-hot sum has one nonzero term, products of extended reals commute and their sums may be reordered, so the
  two results agree entry by entry.
-/
module

public import proofs.«01_k».proof.Proof.Values
public import proofs.«01_k».proof.Proof.Printings
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_rows_of_experts
public import Idealize.ShloMosaic.Lib.Quiescent
public import Idealize.ShloMosaic.Lib.Routing.Ops
public import Idealize.ShloMosaic.Lib.Routing.OpsSet
public import Idealize.ShloMosaic.Lib.ReduceAll
public import Idealize.ShloMosaic.Lib.Affine

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Cert.ReferenceIdeal.Read

/-! ## The precondition -/

variable {F : FTy → Type} [FloatOps F]

theorem both_bits (p q : BitVec 1) (e : IntOp.andi p q = 1#1) : p = 1#1 ∧ q = 1#1 := by
  revert e; revert p q; decide

theorem below_height (v : BitVec 32) (e : IntOp.andi (IntOp.cmpi .sge v 0#32) (IntOp.cmpi .slt v 10240#32) = 1#1) : v.toNat < 10240 := by
  have h := both_bits _ _ e
  have h1 := IntOp.cmpi_sge.1 h.1
  have h2 := IntOp.cmpi_slt.1 h.2
  rw [show (0#32 : BitVec 32).toInt = 0 from rfl] at h1
  rw [show (10240#32 : BitVec 32).toInt = 10240 from rfl] at h2
  rw [BitVec.toInt_eq_toNat_cond] at h1 h2
  split at h1 <;> omega

theorem ix1_lib {n : ℕ} (r : Fin n) : ValueIdx.ix1 r = ix1 r := funext fun a => match a with
  | ⟨0, _⟩ => rfl

/-- A row number shifted right by eight bits is the number of its block. -/
theorem block_word (p : BitVec 32) (hp : p.toNat < 10240) : IntOp.shrsi .host p 8#32 = BitVec.ofNat 32 (blockOf (rowOf p)).val := by
  have hm : p.msb = false := by rw [BitVec.msb_eq_false_iff_two_mul_lt]; omega
  have e : IntOp.shrsi .host p 8#32 = p.sshiftRight 8 := rfl
  rw [e, BitVec.sshiftRight_eq_of_msb_false hm]
  refine BitVec.eq_of_toNat_eq ?_
  rw [BitVec.toNat_ushiftRight, BitVec.toNat_ofNat, Nat.shiftRight_eq_div_pow]
  show p.toNat / 256 = p.toNat % 10240 / 256 % 2 ^ 32
  omega

/-- The take of the block table at the blocks of row numbers in range. -/
theorem table_at (d : GatherDims ⟨1, ![40]⟩ ⟨2, ![4096, 1]⟩ ⟨1, ![4096]⟩) (hcoll : d.collapsedSliceDims = [0]) (hob : d.operandBatchingDims = [])
    (hsim : d.startIndexMap = [0]) (hivd : d.indexVectorDim = 1) (t : Vec F S40 .i32) (p : S4096.Idx → BitVec 32) (hp : ∀ j, (p j).toNat < 10240)
    (idx : IVec ⟨2, ![4096, 1]⟩ 32) (hidx : ∀ n : Fin 4096, idx (ix2 n 0) = IntOp.shrsi .host (p (ix1 n)) 8#32) (n : Fin 4096) :
    Host.gather d t idx (ix1 n) = entry t (grid0.coords (blockOf (rowOf (p (ix1 n))))) := by
  have h := Routing.gather_take1 d hcoll hob hsim hivd t idx n ⟨(blockOf (rowOf (p (ix1 n)))).val, by have := (blockOf (rowOf (p (ix1 n)))).isLt; have := N_0; omega⟩
    (by rw [ix2_lib, hidx, block_word _ (hp _)]) (by decide)
  rw [ix1_lib, ix1_lib] at h
  rw [h, entry_at]

theorem ix1_split {n : ℕ} (i : (⟨1, ![n]⟩ : Shape).Idx) : i = ix1 (i 0) := funext fun a => match a with
  | ⟨0, _⟩ => rfl

/-- The parts of the precondition at one token. -/
theorem parts (a a' b b' r : BitVec 1) (e : IntOp.andi (IntOp.andi (IntOp.andi a a') (IntOp.andi b b')) r = 1#1) :
    a = 1#1 ∧ a' = 1#1 ∧ b = 1#1 ∧ b' = 1#1 ∧ r = 1#1 := by
  have h := both_bits _ _ e
  have h2 := both_bits _ _ h.1
  have h3 := both_bits _ _ h2.1
  have h4 := both_bits _ _ h2.2
  exact ⟨h3.1, h3.2, h4.1, h4.2, h.2⟩

theorem column_at (x : IVec Cert.Pre_rows_of_experts.S4096 32) (n : Fin 4096) :
    broadcastInDim Cert.Pre_rows_of_experts.S4096x1 ![0] Cert.Pre_rows_of_experts.Facts.bcast_S4096_S4096x1_0 x (ix2 n (0 : Fin 1)) = x (ix1 n) :=
  congrArg x (funext fun a => match a with | ⟨0, _⟩ => rfl)

theorem ok_of_pre (m : (ℓ : Loc nD τ sig) → Buf (Elt F) ℓ)
    (h : ∀ c : Dev nD, Cert.Pre_rows_of_experts.fn (F := F) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) (m ((c.tc : Thread nD τ).loc main_arg10))
      (m ((c.tc : Thread nD τ).loc main_arg11)) = (fun _ => 1#1)) :
    PreOK m := by
  have key (d : Dev nD) (n : Fin 4096) := parts _ _ _ _ _ (congrFun (h d) (ix1 n))
  have hp0 : ∀ (d : Dev nD) (j : S4096.Idx), (m (p0Loc d) j).toNat < 10240 := fun d j => by
    rw [ix1_split j]; exact below_height _ (key d (j 0)).1
  have hp1 : ∀ (d : Dev nD) (j : S4096.Idx), (m (p1Loc d) j).toNat < 10240 := fun d j => by
    rw [ix1_split j]; exact below_height _ (key d (j 0)).2.2.1
  refine ⟨fun d j => ⟨hp0 d j, hp1 d j⟩, fun j => ?_, fun d j => ?_, fun d j => ?_⟩
  · have hr := (key 0 0).2.2.2.2
    have hs : Subsingleton Cert.Pre_rows_of_experts.S_.Idx := ⟨fun a b => funext fun x => x.elim0⟩
    exact IntOp.cmpi_slt.1 (Host.reduce_andi_all _ _ _ _ _ hr j)
  · obtain rfl : d = 0 := Subsingleton.elim _ _
    obtain ⟨n, rfl⟩ : ∃ n : Fin 4096, j = ix1 n := ⟨j 0, ix1_split j⟩
    refine live_of _ ?_
    have hl := IntOp.cmpi_sge.1 (key 0 n).2.1
    have ht := table_at (F := F) Cert.Pre_rows_of_experts.gather_S40_S4096x1_S4096_n_0_n_n_0_1_1 rfl rfl rfl rfl (tab m) (m (p0Loc 0)) (hp0 0) _ (fun n => column_at (Host.shrsi (m (p0Loc 0)) (fun _ => 8#32)) n) n
    exact hl.trans_eq (congrArg BitVec.toInt ht)
  · obtain rfl : d = 0 := Subsingleton.elim _ _
    obtain ⟨n, rfl⟩ : ∃ n : Fin 4096, j = ix1 n := ⟨j 0, ix1_split j⟩
    refine live_of _ ?_
    have hl := IntOp.cmpi_sge.1 (key 0 n).2.2.2.1
    have ht := table_at (F := F) Cert.Pre_rows_of_experts.gather_S40_S4096x1_S4096_n_0_n_n_0_1_1 rfl rfl rfl rfl (tab m) (m (p1Loc 0)) (hp1 0) _ (fun n => column_at (Host.shrsi (m (p1Loc 0)) (fun _ => 8#32)) n) n
    exact hl.trans_eq (congrArg BitVec.toInt ht)

/-! ## The frames -/

instance inhabited_bits : ∀ e, Nonempty (Elt Bits e) := fun _ => inferInstance
instance inhabited_ideal : ∀ e, Nonempty (Elt Ideal e) := fun _ => inferInstance

theorem frame_kernel : Cert.quiescent_Kernel := fun m ρ hpre => by
  refine runs_word ?_
  exact (θ_run Cert.KernelIdeal.defs _ _).mono (fun _ h => ⟨fun c => (h.1 c).2, h.2⟩) (run_claims (F := Bits) m ρ (ok_of_pre m hpre).table (ok_of_pre m hpre))

theorem frame_ideal : Cert.quiescent_KernelIdeal := fun m ρ hpre =>
  (θ_run Cert.KernelIdeal.defs _ _).mono (fun _ h => ⟨fun c => (h.1 c).2, h.2⟩) (run_claims (F := Ideal) m ρ (ok_of_pre m hpre).table (ok_of_pre m hpre))

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem frame_reference_pre : Cert.quiescent_ReferenceIdeal_pre_rows_of_experts := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-! ## The reference, entry by entry -/

abbrev Img : Type := (⟨S4x384x32x32, .f32⟩ : BufTy).Contents (Elt Ideal)

theorem left_gate (n : Fin 4096) (k : Fin 768) (i : Fin 384) : lidx_main_v49 (ix2 n k) i = ix2 n i := funext fun a => match a with
  | ⟨0, _⟩ => rfl
  | ⟨1, _⟩ => rfl
theorem right_gate (n : Fin 4096) (k : Fin 768) (i : Fin 384) : ridx_main_v49 (ix2 n k) i = ix2 i k := funext fun a => match a with
  | ⟨0, _⟩ => rfl
  | ⟨1, _⟩ => rfl
theorem left_up (n : Fin 4096) (k : Fin 768) (i : Fin 384) : lidx_main_v51 (ix2 n k) i = ix2 n i := funext fun a => match a with
  | ⟨0, _⟩ => rfl
  | ⟨1, _⟩ => rfl
theorem right_up (n : Fin 4096) (k : Fin 768) (i : Fin 384) : ridx_main_v51 (ix2 n k) i = ix2 i k := funext fun a => match a with
  | ⟨0, _⟩ => rfl
  | ⟨1, _⟩ => rfl
theorem left_down (n : Fin 4096) (c : Fin 384) (k : Fin 768) : lidx_main_v53 (ix2 n c) k = ix2 n k := funext fun a => match a with
  | ⟨0, _⟩ => rfl
  | ⟨1, _⟩ => rfl
theorem right_down (n : Fin 4096) (c : Fin 384) (k : Fin 768) : ridx_main_v53 (ix2 n c) k = ix2 k c := funext fun a => match a with
  | ⟨0, _⟩ => rfl
  | ⟨1, _⟩ => rfl

theorem gate_at (x : Img) (wg : Vec Ideal S384x768 .f32) (n : Fin 4096) (k : Fin 768) :
    val_main_v49 (F := Ideal) x wg (ix2 n k) = proj (fun i => val_main_v1 (F := Ideal) x (ix2 n i)) wg k := by
  rw [val_main_v49_apply]
  simp only [left_gate, right_gate]
  rfl
theorem up_at (x : Img) (wu : Vec Ideal S384x768 .f32) (n : Fin 4096) (k : Fin 768) :
    val_main_v51 (F := Ideal) x wu (ix2 n k) = proj (fun i => val_main_v1 (F := Ideal) x (ix2 n i)) wu k := by
  rw [val_main_v51_apply]
  simp only [left_up, right_up]
  rfl

theorem sigmoid_at (x : Img) (wg : Vec Ideal S384x768 .f32) (i : Cert.ReferenceIdeal.S4096x768.Idx) :
    val_main_call8_v5 (F := Ideal) x wg i = Ideal.logistic (val_main_v49 (F := Ideal) x wg i) := by
  rw [val_main_call8_v5_apply, val_main_call8_v4_apply, val_main_call8_v3_apply, val_main_call8_v2_apply, val_main_call8_v1_apply, val_main_call8_v0_apply,
    val_main_call8_cst_apply, val_main_call8_cst_0_apply]
  show Ideal.div (Ideal.ofBits .f32 0x3F800000#32) (Ideal.ofBits .f32 0x3F800000#32 + Ideal.exp (-(val_main_v49 (F := Ideal) x wg i))) = _
  rw [Ideal.ofBits_one_f32]
  rfl

theorem network_at (x : Img) (wg wu : Vec Ideal S384x768 .f32) (wd : Vec Ideal S768x384 .f32) (n : Fin 4096) (c : Fin 384) :
    val_main_v53 (F := Ideal) x wg wu wd (ix2 n c) = ffn (fun i => val_main_v1 (F := Ideal) x (ix2 n i)) wg wu wd c := by
  rw [val_main_v53_apply]
  refine Finset.sum_congr rfl fun k _ => ?_
  rw [left_down, right_down, val_main_v52_apply, val_main_v50_apply, sigmoid_at, gate_at, up_at]
  rfl

/-- The host gather takes the rows the SparseCore call takes, for row numbers in range. -/
theorem take_at (y : Vec Ideal S10240x384 .f32) (p : S4096.Idx → Elt Ideal .i32) (hp : ∀ j, (p j).toNat < 10240)
    (idx : IVec Cert.ReferenceIdeal.S4096x1 32) (hidx : ∀ n : Fin 4096, idx (ix2 n 0) = p (ix1 n)) (n : Fin 4096) (c : Fin 384) :
    Host.gather Cert.ReferenceIdeal.gather_S10240x384_S4096x1_S4096x384_1_0_n_n_0_1_1384 y idx (ix2 n c) = taken (F := Ideal) y p (ix2 n c) := by
  have h := Routing.gather_row (nb := 10240) (B := 384) (n := 4096) Cert.ReferenceIdeal.gather_S10240x384_S4096x1_S4096x384_1_0_n_n_0_1_1384
    rfl rfl rfl rfl rfl y idx n c (rowOf (p (ix1 n)))
    (by
      rw [ix2_lib, hidx]
      refine BitVec.eq_of_toNat_eq ?_
      show (p (ix1 n)).toNat = (BitVec.ofNat 32 ((p (ix1 n)).toNat % 10240)).toNat
      rw [BitVec.toNat_ofNat, Nat.mod_eq_of_lt (hp _)]
      have := hp (ix1 n); omega)
    (by decide)
  simp only [ix2_lib] at h
  exact h

/-! ## One path through the experts -/

section path

variable (be : Vec Ideal S40 .i32) (y : Vec Ideal S10240x384 .f32) (wg wu : Vec Ideal S8x384x768 .f32) (wd : Vec Ideal S8x768x384 .f32)
  (s : Vec Ideal S10240 .f32) (p : S4096.Idx → Elt Ideal .i32)

theorem path_rows (hp : ∀ j, (p j).toNat < 10240) (n : Fin 4096) (c : Fin 384) : val_main_v2 (F := Ideal) y p (ix2 n c) = y (ix2 (rowOf (p (ix1 n))) c) :=
  take_at y p hp _ (fun k => (val_main_call0_v0_apply p (ix2 k 0)).trans (congrArg p (funext fun a => match a with | ⟨0, _⟩ => rfl))) n c

theorem path_expert (hp : ∀ j, (p j).toNat < 10240) (n : Fin 4096) :
    val_main_v5 (F := Ideal) be p (ix1 n) = entry be (grid0.coords (blockOf (rowOf (p (ix1 n))))) := by
  refine table_at (F := Ideal) Cert.ReferenceIdeal.gather_S40_S4096x1_S4096_n_0_n_n_0_1_1 rfl rfl rfl rfl be p hp _ (fun k => ?_) n
  rw [val_main_call1_v0_apply, show idx_main_call1_v0 (ix2 k 0) = ix1 k from funext fun a => match a with | ⟨0, _⟩ => rfl, val_main_v4_apply, val_main_v3_apply, val_main_c_apply]

theorem path_weight (hp : ∀ j, (p j).toNat < 10240) (n : Fin 4096) : val_main_v6 (F := Ideal) s p (ix1 n) = s (ix1 (rowOf (p (ix1 n)))) := by
  have h := Routing.gather_take1 (N := 10240) (n := 4096) Cert.ReferenceIdeal.gather_S10240_S4096x1_S4096_n_0_n_n_0_1_1 rfl rfl rfl rfl s (val_main_call2_v0 (F := Ideal) p) n (rowOf (p (ix1 n)))
    (by
      rw [ix2_lib, val_main_call2_v0_apply, show idx_main_call2_v0 (ix2 n 0) = ix1 n from funext fun a => match a with | ⟨0, _⟩ => rfl]
      refine BitVec.eq_of_toNat_eq ?_
      show (p (ix1 n)).toNat = (BitVec.ofNat 32 ((p (ix1 n)).toNat % 10240)).toNat
      rw [BitVec.toNat_ofNat, Nat.mod_eq_of_lt (hp _)]
      have := hp (ix1 n); omega)
    (by decide)
  rw [ix1_lib, ix1_lib] at h
  exact h

/-- The one-hot factor times the row's weight. -/
theorem path_factor (hp : ∀ j, (p j).toNat < 10240) (n : Fin 4096) (e : Fin 8) :
    val_main_v16 (F := Ideal) be s p (ix2 n e)
      = (((IntOp.cmpi .eq (entry be (grid0.coords (blockOf (rowOf (p (ix1 n)))))) (BitVec.ofNat 32 e.val)).toNat : ℝ) : EReal) * s (ix1 (rowOf (p (ix1 n)))) := by
  rw [val_main_v16_apply, val_main_v13_apply, val_main_v12_apply, val_main_v10_apply, val_main_v7_apply, val_main_v11_apply, val_main_v9_apply, val_main_v8_apply,
    val_main_v15_apply, val_main_v14_apply,
    show idx_main_v7 (idx_main_v10 (ix2 n e)) = ix1 n from funext fun a => match a with | ⟨0, _⟩ => rfl,
    show idx_main_v14 (idx_main_v15 (ix2 n e)) = ix1 n from funext fun a => match a with | ⟨0, _⟩ => rfl,
    path_expert be p hp, path_weight s p hp]
  rfl

theorem path_gate (hp : ∀ j, (p j).toNat < 10240) (e : Fin 8) (n : Fin 4096) (k : Fin 768) :
    val_main_v18 (F := Ideal) y wg p (ValueIdx.ix3 e n k) = proj (fun i => y (ix2 (rowOf (p (ix1 n))) i)) (slice wg e) k := by
  rw [val_main_v18_apply, val_main_v17_apply]
  refine Finset.sum_congr rfl fun i _ => ?_
  rw [show lidx_main_v17 (idx_main_v18 (ValueIdx.ix3 e n k)) i = ValueIdx.ix3 e i k from funext fun a => match a with | ⟨0, _⟩ => rfl | ⟨1, _⟩ => rfl | ⟨2, _⟩ => rfl,
    show ridx_main_v17 (idx_main_v18 (ValueIdx.ix3 e n k)) i = ix2 n i from funext fun a => match a with | ⟨0, _⟩ => rfl | ⟨1, _⟩ => rfl,
    path_rows y p hp, mul_comm]
  rfl
theorem path_up (hp : ∀ j, (p j).toNat < 10240) (e : Fin 8) (n : Fin 4096) (k : Fin 768) :
    val_main_v20 (F := Ideal) y wu p (ValueIdx.ix3 e n k) = proj (fun i => y (ix2 (rowOf (p (ix1 n))) i)) (slice wu e) k := by
  rw [val_main_v20_apply, val_main_v19_apply]
  refine Finset.sum_congr rfl fun i _ => ?_
  rw [show lidx_main_v19 (idx_main_v20 (ValueIdx.ix3 e n k)) i = ValueIdx.ix3 e i k from funext fun a => match a with | ⟨0, _⟩ => rfl | ⟨1, _⟩ => rfl | ⟨2, _⟩ => rfl,
    show ridx_main_v19 (idx_main_v20 (ValueIdx.ix3 e n k)) i = ix2 n i from funext fun a => match a with | ⟨0, _⟩ => rfl | ⟨1, _⟩ => rfl,
    path_rows y p hp, mul_comm]
  rfl

theorem path_sigmoid (i : Cert.ReferenceIdeal.S8x4096x768.Idx) :
    val_main_call3_v5 (F := Ideal) y wg p i = Ideal.logistic (val_main_v18 (F := Ideal) y wg p i) := by
  rw [val_main_call3_v5_apply, val_main_call3_v4_apply, val_main_call3_v3_apply, val_main_call3_v2_apply, val_main_call3_v1_apply, val_main_call3_v0_apply,
    val_main_call3_cst_apply, val_main_call3_cst_0_apply]
  show Ideal.div (Ideal.ofBits .f32 0x3F800000#32) (Ideal.ofBits .f32 0x3F800000#32 + Ideal.exp (-(val_main_v18 (F := Ideal) y wg p i))) = _
  rw [Ideal.ofBits_one_f32]
  rfl

theorem path_network (hp : ∀ j, (p j).toNat < 10240) (e : Fin 8) (n : Fin 4096) (c : Fin 384) :
    val_main_v23 (F := Ideal) y wg wu wd p (ValueIdx.ix3 e n c)
      = ffn (fun i => y (ix2 (rowOf (p (ix1 n))) i)) (slice wg e) (slice wu e) (slice wd e) c := by
  rw [val_main_v23_apply]
  refine Finset.sum_congr rfl fun k _ => ?_
  rw [show lidx_main_v23 (ValueIdx.ix3 e n c) k = ValueIdx.ix3 e n k from funext fun a => match a with | ⟨0, _⟩ => rfl | ⟨1, _⟩ => rfl | ⟨2, _⟩ => rfl,
    show ridx_main_v23 (ValueIdx.ix3 e n c) k = ValueIdx.ix3 e k c from funext fun a => match a with | ⟨0, _⟩ => rfl | ⟨1, _⟩ => rfl | ⟨2, _⟩ => rfl,
    val_main_v22_apply, val_main_v21_apply, path_sigmoid, path_gate y wg p hp, path_up y wu p hp]
  rfl

/-- A live word below eight is the word of the expert it names. -/
theorem expert_word (v : BitVec 32) (h8 : v.toInt < 8) (h0 : 0 ≤ v.toInt) : v = BitVec.ofNat 32 (expertOf v h8).val := by
  have hm : Scalar.maxsi v 0#32 = v := by
    show IntOp.maxsi v 0#32 = v
    unfold IntOp.maxsi
    have hz : (0#32 : BitVec 32).toInt = 0 := rfl
    split
    · rfl
    · rename_i hs
      rw [BitVec.slt_eq_decide, decide_eq_true_eq, hz] at hs
      exact BitVec.eq_of_toInt_eq (by rw [hz]; omega)
  refine BitVec.eq_of_toNat_eq ?_
  show v.toNat = (BitVec.ofNat 32 (Scalar.maxsi v 0#32).toNat).toNat
  rw [hm, BitVec.ofNat_toNat, BitVec.setWidth_eq]

/-- The path's sum over the experts is its row's own expert's term: the row of the table that the kernel takes. -/
theorem path_at (hp : ∀ j, (p j).toNat < 10240) (htab : TabOK be) (hl : ∀ j : S4096.Idx, 0 ≤ (entry be (grid0.coords (blockOf (rowOf (p j))))).toInt) (n : Fin 4096) (c : Fin 384) :
    val_main_v24 (F := Ideal) be y wg wu wd s p (ix2 n c)
      = ffn (fun i => y (ix2 (rowOf (p (ix1 n))) i)) (slice wg (expertAt be htab (rowOf (p (ix1 n))))) (slice wu (expertAt be htab (rowOf (p (ix1 n)))))
          (slice wd (expertAt be htab (rowOf (p (ix1 n))))) c * s (ix1 (rowOf (p (ix1 n)))) := by
  have hw : entry be (grid0.coords (blockOf (rowOf (p (ix1 n))))) = BitVec.ofNat 32 (expertAt be htab (rowOf (p (ix1 n)))).val := expert_word _ (htab _) (hl _)
  rw [val_main_v24_apply]
  have term (e : Fin 8) : val_main_v23 (F := Ideal) y wg wu wd p (lidx_main_v24 (ix2 n c) e) * val_main_v16 (F := Ideal) be s p (ridx_main_v24 (ix2 n c) e)
      = ffn (fun i => y (ix2 (rowOf (p (ix1 n))) i)) (slice wg e) (slice wu e) (slice wd e) c
        * ((((IntOp.cmpi .eq (BitVec.ofNat 32 (expertAt be htab (rowOf (p (ix1 n)))).val) (BitVec.ofNat 32 e.val)).toNat : ℝ) : EReal) * s (ix1 (rowOf (p (ix1 n))))) := by
    rw [show lidx_main_v24 (ix2 n c) e = ValueIdx.ix3 e n c from funext fun a => match a with | ⟨0, _⟩ => rfl | ⟨1, _⟩ => rfl | ⟨2, _⟩ => rfl,
      show ridx_main_v24 (ix2 n c) e = ix2 n e from funext fun a => match a with | ⟨0, _⟩ => rfl | ⟨1, _⟩ => rfl,
      path_network y wg wu wd p hp, path_factor be s p hp, hw]
  rw [Finset.sum_congr rfl fun e _ => term e]
  generalize expertAt be htab (rowOf (p (ix1 n))) = e0
  rw [Finset.sum_eq_single e0]
  · have h1 : IntOp.cmpi .eq (BitVec.ofNat 32 e0.val) (BitVec.ofNat 32 e0.val) = 1#1 := IntOp.cmpi_eq.2 rfl
    rw [h1]
    have h1' : (((1#1 : BitVec 1).toNat : ℝ) : EReal) = 1 := by simp
    rw [h1', one_mul]
  · intro e _ hne
    have h0 : IntOp.cmpi .eq (BitVec.ofNat 32 e0.val) (BitVec.ofNat 32 e.val) = 0#1 := by
      have hn : IntOp.cmpi .eq (BitVec.ofNat 32 e0.val) (BitVec.ofNat 32 e.val) ≠ 1#1 := fun h => hne (by
        have hh := congrArg BitVec.toNat (IntOp.cmpi_eq.1 h)
        rw [BitVec.toNat_ofNat, BitVec.toNat_ofNat] at hh
        have := e.isLt; have := e0.isLt
        exact Fin.ext (by omega))
      revert hn
      generalize IntOp.cmpi .eq (BitVec.ofNat 32 e0.val) (BitVec.ofNat 32 e.val) = b
      revert b; decide
    rw [h0]
    have h0' : (((0#1 : BitVec 1).toNat : ℝ) : EReal) = 0 := by simp
    rw [h0', zero_mul, mul_zero]
  · intro h; exact absurd (Finset.mem_univ _) h

/-- The two paths are one function of their row numbers. -/
theorem second_path : val_main_v47 (F := Ideal) be y wg wu wd s p = val_main_v24 (F := Ideal) be y wg wu wd s p := rfl

end path

/-! ## The kernel's result -/

variable (m : (ℓ : Loc nD τ sig) → Buf (Elt Ideal) ℓ) (htab : TabOK (tab m)) (fs : (d : Dev nD) → Buf (Elt Ideal) (yLoc d))

abbrev arg (d : Dev nD) (b : Ref sig .tc) : Buf (Elt Ideal) ((SparseCore.T d : Thread nD τ).loc b) := m ((SparseCore.T d : Thread nD τ).loc b)

theorem tokens (d : Dev nD) : at1 m d (ref main_v1) = val_main_v1 (F := Ideal) (arg m d main_arg0) := by
  unfold at1
  rw [StableHlo.reshape_result_ne _ _ _ _ _ _ _ (show main_v1 ≠ main_v2 by decide),
    StableHlo.reshape_result', StableHlo.unary_result']
  rfl

theorem weight_column (d : Dev nD) (r : Fin 10240) : at1 m d (ref main_v2) (ix2 r (0 : Fin 1)) = arg m d main_arg6 (ix1 r) := by
  unfold at1
  rw [StableHlo.reshape_result',
    StableHlo.reshape_result_ne _ _ _ _ _ _ _ (show main_arg6 ≠ main_v1 by decide), StableHlo.unary_result_ne _ _ _ _ _ _ (show main_arg6 ≠ main_v0 by decide)]
  have h := ValueIdx.shapeCast_a_a1_apply (arg m d main_arg6) shapeCasts_S10240_S10240x1 r (0 : Fin 1)
  rw [ix2_lib, ix1_lib] at h
  exact h

/-- An entry of the rows that one gather takes is the reference's path sum. -/
theorem taken_path (d : Dev nD) (p : S4096.Idx → Elt Ideal .i32) (hp : ∀ j, (p j).toNat < 10240)
    (hl : ∀ j : S4096.Idx, 0 ≤ (entry (tab m) (grid0.coords (blockOf (rowOf (p j))))).toInt) (n : Fin 4096) (c : Fin 384) :
    taken (F := Ideal) (rows m htab d) p (ix2 n c)
      = val_main_v24 (F := Ideal) (tab m) (arg m d main_arg2) (arg m d main_arg3) (arg m d main_arg4) (arg m d main_arg5) (arg m d main_arg6) p (ix2 n c) := by
  rw [path_at (tab m) _ _ _ _ _ p hp htab hl n c]
  have ht : taken (F := Ideal) (rows m htab d) p (ix2 n c) = expertRows (tab m) (W1 m) htab d (ix2 (rowOf (p (ix1 n))) c) := by unfold taken rows; rfl
  rw [ht, expertRows_at]
  rw [show W1 m d main_v2 (ix2 (rowOf (p (ix1 n))) (0 : Fin 1)) = _ from weight_column m d _, show W1 m d main_arg2 = arg m d main_arg2 from at1_ne m d (by decide),
    show W1 m d main_arg3 = arg m d main_arg3 from at1_ne m d (by decide), show W1 m d main_arg4 = arg m d main_arg4 from at1_ne m d (by decide),
    show W1 m d main_arg5 = arg m d main_arg5 from at1_ne m d (by decide)]

/-- A live word is not negative. -/
theorem nonneg_of_live (v : BitVec 32) (h : Live v) : 0 ≤ v.toInt := by
  have h' : Scalar.cmpi .ne (Scalar.extui (Scalar.cmpi .sge v 0#32)) 0#32 = 1#1 := h
  have bit : ∀ b : BitVec 1, Scalar.cmpi .ne (Scalar.extui b) 0#32 = 1#1 → b = 1#1 := by decide
  exact IntOp.cmpi_sge.1 (bit _ h')

theorem kernel_rows (hpre : PreOK m) (d : Dev nD) : at4 m htab fs d (ref main_v5)
    = val_main_v54 (F := Ideal) (arg m d main_arg0) (arg m d main_arg1) (arg m d main_arg2) (arg m d main_arg3) (arg m d main_arg4) (arg m d main_arg5) (arg m d main_arg6)
        (arg m d main_arg7) (arg m d main_arg8) (arg m d main_arg9) (arg m d main_arg10) (arg m d main_arg11) := by
  have hd : arg m d main_arg1 = tab m := by obtain rfl : d = 0 := Subsingleton.elim _ _; rfl
  rw [at4_out]
  funext i
  obtain ⟨n, c, rfl⟩ : ∃ (n : Fin 4096) (c : Fin 384), i = ix2 n c := ⟨i 0, i 1, ix2_split i⟩
  rw [result_at]
  have keep {b : Ref sig .tc} (ha : b ≠ main_v4_0) (hb : b ≠ main_v4_1) (h5 : b ≠ main_v3) : at3 m htab fs d (ref b) = at1 m d (ref b) :=
    (at3_ne m htab fs d ha hb).trans (at2_ne m fs d h5)
  rw [at3_a, at3_b, keep (b := main_v1) (by decide) (by decide) (by decide), tokens, keep (b := main_arg7) (by decide) (by decide) (by decide),
    keep (b := main_arg8) (by decide) (by decide) (by decide), keep (b := main_arg9) (by decide) (by decide) (by decide),
    at1_ne m d (b := main_arg7) (by decide), at1_ne m d (b := main_arg8) (by decide), at1_ne m d (b := main_arg9) (by decide)]
  rw [taken_path m htab d _ (fun j => (hpre.rows d j).1) (fun j => nonneg_of_live _ (hpre.live0 d j)),
    taken_path m htab d _ (fun j => (hpre.rows d j).2) (fun j => nonneg_of_live _ (hpre.live1 d j)), hd]
  rw [val_main_v54_apply, val_main_v48_apply, second_path, network_at, Ideal.addf_def, Ideal.addf_def, add_comm (_ + _) (ffn _ _ _ _ _), ← add_assoc]

theorem kernel_value (hpre : PreOK m) (d : Dev nD) : at5 m htab fs d (ref main_v7)
    = val_main_v56 (F := Ideal) (arg m d main_arg0) (arg m d main_arg1) (arg m d main_arg2) (arg m d main_arg3) (arg m d main_arg4) (arg m d main_arg5) (arg m d main_arg6)
        (arg m d main_arg7) (arg m d main_arg8) (arg m d main_arg9) (arg m d main_arg10) (arg m d main_arg11) := by
  unfold at5
  rw [StableHlo.unary_result', StableHlo.reshape_result', kernel_rows m htab fs hpre d]
  rfl

/-! ## The value claim -/

theorem algebraic : Cert.algebraic_KernelIdeal_ReferenceIdeal := by
  intro m ρ m' ρ' hpre hagree
  have hok : PreOK m := ok_of_pre m hpre
  refine ⟨fun c => val_main_v56 (F := Ideal) (arg m c main_arg0) (arg m c main_arg1) (arg m c main_arg2) (arg m c main_arg3) (arg m c main_arg4) (arg m c main_arg5) (arg m c main_arg6)
        (arg m c main_arg7) (arg m c main_arg8) (arg m c main_arg9) (arg m c main_arg10) (arg m c main_arg11),
    (θ_run Cert.KernelIdeal.defs _ _).mono (fun _ h c => ⟨?_, (h.1 c).2⟩) (run_claims (F := Ideal) m ρ hok.table hok), ?_⟩
  · obtain ⟨fs, hv⟩ := (h.1 c).1
    exact hv.trans (kernel_value m hok.table fs hok c)
  refine (θ_run Cert.ReferenceIdeal.defs _ _).mono (fun _ h c => ⟨(h c).1.trans ?_, (h c).2⟩) (Cert.ReferenceIdeal.Value.run (F := Ideal) m' ρ')
  obtain ⟨e0, e1, e2, e3, e4, e5, e6, e7, e8, e9, e10, e11⟩ := hagree c
  refine (val_main_v56_eq m' c).trans ?_
  rw [e0, e1, e2, e3, e4, e5, e6, e7, e8, e9, e10, e11]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_rows_of_experts
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_rows_of_experts.Gen.facts,
  frame_kernel, frame_ideal, frame_reference, frame_reference_pre, trivial, algebraic⟩

end Cert.Proof

end
